-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S9x256x1024 : Shape := ⟨3, ![9, 256, 1024]⟩
abbrev S8x256x1024 : Shape := ⟨3, ![8, 256, 1024]⟩
abbrev S16x128 : Shape := ⟨2, ![16, 128]⟩
abbrev S_ : Shape := ⟨0, ![]⟩
abbrev S8 : Shape := ⟨1, ![8]⟩
abbrev S7 : Shape := ⟨1, ![7]⟩
abbrev S15 : Shape := ⟨1, ![15]⟩
abbrev S256x256 : Shape := ⟨2, ![256, 256]⟩
abbrev S256x1024 : Shape := ⟨2, ![256, 1024]⟩
abbrev S1x256x1024 : Shape := ⟨3, ![1, 256, 1024]⟩
abbrev S1 : Shape := ⟨1, ![1]⟩
abbrev S1x1x1 : Shape := ⟨3, ![1, 1, 1]⟩
abbrev S1x128 : Shape := ⟨2, ![1, 128]⟩
abbrev S1x16x128 : Shape := ⟨3, ![1, 16, 128]⟩

abbrev nBuf : Space → Nat
  | .hbm => 3
  | .vmem => 10
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S256x2048, .f32⟩
  | .local _ .vmem, ⟨0, _⟩ => ⟨S4096x256, .bf16⟩
  | .local _ .vmem, ⟨1, _⟩ => ⟨S256x2048, .bf16⟩
  | .local _ .vmem, ⟨2, _⟩ => ⟨S256x2048, .f32⟩
  | .local _ .vmem, ⟨3, _⟩ => ⟨S4096x256, .bf16⟩
  | .local _ .vmem, ⟨4, _⟩ => ⟨S256x2048, .bf16⟩
  | .local _ .vmem, ⟨5, _⟩ => ⟨S9x256x1024, .bf16⟩
  | .local _ .vmem, ⟨6, _⟩ => ⟨S9x256x1024, .bf16⟩
  | .local _ .vmem, ⟨7, _⟩ => ⟨S8x256x1024, .bf16⟩
  | .local _ .vmem, ⟨8, _⟩ => ⟨S8x256x1024, .bf16⟩
  | .local _ .vmem, ⟨9, _⟩ => ⟨S16x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_17 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v23 : BitVec 32 := Scalar.addi v2 c8_i32
  let v24 : BitVec 32 := Scalar.subi v23 c0_i32_17
  let c32_i32 : BitVec 32 := 32#32
  let v25 : BitVec 32 := Scalar.addi v24 c32_i32
  let c16_i32_18 : BitVec 32 := 16#32
  let v26 : BitVec 32 := Scalar.remsi v25 c16_i32_18
  let c256_i32 : BitVec 32 := 256#32
  let v27 : BitVec 32 := Scalar.muli v26 c256_i32
  let v28 : Index := Scalar.indexCast v27
  let c0_19 : Index := 0#32
  ![v28.toNat, 0]
def k0_off2 (d0 : Dev nD) (c0_i32_25 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v36 : BitVec 32 := Scalar.subi v2 c7_i32
  let v37 : BitVec 32 := Scalar.addi v36 c0_i32_25
  let c32_i32_26 : BitVec 32 := 32#32
  let v38 : BitVec 32 := Scalar.addi v37 c32_i32_26
  let c16_i32_27 : BitVec 32 := 16#32
  let v39 : BitVec 32 := Scalar.remsi v38 c16_i32_27
  let c256_i32_28 : BitVec 32 := 256#32
  let v40 : BitVec 32 := Scalar.muli v39 c256_i32_28
  let v41 : Index := Scalar.indexCast v40
  let c0_29 : Index := 0#32
  ![v41.toNat, 0]
def k0_dev3 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_62 : BitVec 32 := 1#32
  let v75 : BitVec 32 := Scalar.muli v7 c1_i32_62
  let v76 : BitVec 32 := Scalar.addi c0_i32_63 v75
  v76.toNat
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_71 : BitVec 32 := 1#32
  let v83 : BitVec 32 := Scalar.muli v5 c1_i32_71
  let v84 : BitVec 32 := Scalar.addi c0_i32_72 v83
  v84.toNat
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_80 : BitVec 32 := 1#32
  let v91 : BitVec 32 := Scalar.muli v7 c1_i32_80
  let v92 : BitVec 32 := Scalar.addi c0_i32_81 v91
  v92.toNat
def k0_dev6 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_89 : BitVec 32 := 1#32
  let v99 : BitVec 32 := Scalar.muli v5 c1_i32_89
  let v100 : BitVec 32 := Scalar.addi c0_i32_90 v99
  v100.toNat
def k0_dev7 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_129 : BitVec 32 := 1#32
  let v136 : BitVec 32 := Scalar.muli v7 c1_i32_129
  let v137 : BitVec 32 := Scalar.addi c0_i32_130 v136
  v137.toNat
def k0_dev8 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_170 : BitVec 32 := 1#32
  let v173 : BitVec 32 := Scalar.muli v5 c1_i32_170
  let v174 : BitVec 32 := Scalar.addi c0_i32_171 v173
  v174.toNat
def k0_dev9 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_211 : BitVec 32 := 1#32
  let v210 : BitVec 32 := Scalar.muli v7 c1_i32_211
  let v211 : BitVec 32 := Scalar.addi c0_i32_212 v210
  v211.toNat
def k0_dev10 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_252 : BitVec 32 := 1#32
  let v247 : BitVec 32 := Scalar.muli v5 c1_i32_252
  let v248 : BitVec 32 := Scalar.addi c0_i32_253 v247
  v248.toNat
def k0_dev11 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_291 : BitVec 32 := 1#32
  let v284 : BitVec 32 := Scalar.muli v7 c1_i32_291
  let v285 : BitVec 32 := Scalar.addi c0_i32_292 v284
  v285.toNat
def k0_dev12 (d0 : Dev nD) : Nat :=
  let c0_i32_333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_332 : BitVec 32 := 1#32
  let v321 : BitVec 32 := Scalar.muli v5 c1_i32_332
  let v322 : BitVec 32 := Scalar.addi c0_i32_333 v321
  v322.toNat
def k0_dev13 (d0 : Dev nD) : Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_373 : BitVec 32 := 1#32
  let v358 : BitVec 32 := Scalar.muli v7 c1_i32_373
  let v359 : BitVec 32 := Scalar.addi c0_i32_374 v358
  v359.toNat
def k0_dev14 (d0 : Dev nD) : Nat :=
  let c0_i32_415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_414 : BitVec 32 := 1#32
  let v395 : BitVec 32 := Scalar.muli v5 c1_i32_414
  let v396 : BitVec 32 := Scalar.addi c0_i32_415 v395
  v396.toNat
def k0_dev15 (d0 : Dev nD) : Nat :=
  let c0_i32_454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_453 : BitVec 32 := 1#32
  let v432 : BitVec 32 := Scalar.muli v7 c1_i32_453
  let v433 : BitVec 32 := Scalar.addi c0_i32_454 v432
  v433.toNat
def k0_dev16 (d0 : Dev nD) : Nat :=
  let c0_i32_495 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_494 : BitVec 32 := 1#32
  let v469 : BitVec 32 := Scalar.muli v5 c1_i32_494
  let v470 : BitVec 32 := Scalar.addi c0_i32_495 v469
  v470.toNat
def k0_dev17 (d0 : Dev nD) : Nat :=
  let c0_i32_536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_535 : BitVec 32 := 1#32
  let v506 : BitVec 32 := Scalar.muli v7 c1_i32_535
  let v507 : BitVec 32 := Scalar.addi c0_i32_536 v506
  v507.toNat
def k0_dev18 (d0 : Dev nD) : Nat :=
  let c0_i32_577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_576 : BitVec 32 := 1#32
  let v543 : BitVec 32 := Scalar.muli v5 c1_i32_576
  let v544 : BitVec 32 := Scalar.addi c0_i32_577 v543
  v544.toNat
def k0_dev19 (d0 : Dev nD) : Nat :=
  let c0_i32_616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_615 : BitVec 32 := 1#32
  let v580 : BitVec 32 := Scalar.muli v7 c1_i32_615
  let v581 : BitVec 32 := Scalar.addi c0_i32_616 v580
  v581.toNat
def k0_dev20 (d0 : Dev nD) : Nat :=
  let c0_i32_657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_656 : BitVec 32 := 1#32
  let v617 : BitVec 32 := Scalar.muli v5 c1_i32_656
  let v618 : BitVec 32 := Scalar.addi c0_i32_657 v617
  v618.toNat
def k0_dev21 (d0 : Dev nD) : Nat :=
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_697 : BitVec 32 := 1#32
  let v654 : BitVec 32 := Scalar.muli v7 c1_i32_697
  let v655 : BitVec 32 := Scalar.addi c0_i32_698 v654
  v655.toNat
def k0_dev22 (d0 : Dev nD) : Nat :=
  let c0_i32_739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_738 : BitVec 32 := 1#32
  let v691 : BitVec 32 := Scalar.muli v5 c1_i32_738
  let v692 : BitVec 32 := Scalar.addi c0_i32_739 v691
  v692.toNat
def k0_dev23 (d0 : Dev nD) : Nat :=
  let c0_i32_778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_777 : BitVec 32 := 1#32
  let v728 : BitVec 32 := Scalar.muli v7 c1_i32_777
  let v729 : BitVec 32 := Scalar.addi c0_i32_778 v728
  v729.toNat
def k0_dev24 (d0 : Dev nD) : Nat :=
  let c0_i32_819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_818 : BitVec 32 := 1#32
  let v765 : BitVec 32 := Scalar.muli v5 c1_i32_818
  let v766 : BitVec 32 := Scalar.addi c0_i32_819 v765
  v766.toNat
def k0_dev25 (d0 : Dev nD) : Nat :=
  let c0_i32_860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_859 : BitVec 32 := 1#32
  let v802 : BitVec 32 := Scalar.muli v7 c1_i32_859
  let v803 : BitVec 32 := Scalar.addi c0_i32_860 v802
  v803.toNat
def k0_dev26 (d0 : Dev nD) : Nat :=
  let c0_i32_901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_900 : BitVec 32 := 1#32
  let v839 : BitVec 32 := Scalar.muli v5 c1_i32_900
  let v840 : BitVec 32 := Scalar.addi c0_i32_901 v839
  v840.toNat
def k0_dev27 (d0 : Dev nD) : Nat :=
  let c0_i32_941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_940 : BitVec 32 := 1#32
  let v876 : BitVec 32 := Scalar.muli v7 c1_i32_940
  let v877 : BitVec 32 := Scalar.addi c0_i32_941 v876
  v877.toNat
def k0_dev28 (d0 : Dev nD) : Nat :=
  let c0_i32_982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_981 : BitVec 32 := 1#32
  let v913 : BitVec 32 := Scalar.muli v5 c1_i32_981
  let v914 : BitVec 32 := Scalar.addi c0_i32_982 v913
  v914.toNat
def k0_dev29 (d0 : Dev nD) : Nat :=
  let c0_i32_1023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1022 : BitVec 32 := 1#32
  let v950 : BitVec 32 := Scalar.muli v7 c1_i32_1022
  let v951 : BitVec 32 := Scalar.addi c0_i32_1023 v950
  v951.toNat
def k0_dev30 (d0 : Dev nD) : Nat :=
  let c0_i32_1064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1063 : BitVec 32 := 1#32
  let v987 : BitVec 32 := Scalar.muli v5 c1_i32_1063
  let v988 : BitVec 32 := Scalar.addi c0_i32_1064 v987
  v988.toNat
def k0_dev31 (d0 : Dev nD) : Nat :=
  let c0_i32_1104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1103 : BitVec 32 := 1#32
  let v1024 : BitVec 32 := Scalar.muli v7 c1_i32_1103
  let v1025 : BitVec 32 := Scalar.addi c0_i32_1104 v1024
  v1025.toNat
def k0_dev32 (d0 : Dev nD) : Nat :=
  let c0_i32_1145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1144 : BitVec 32 := 1#32
  let v1061 : BitVec 32 := Scalar.muli v7 c1_i32_1144
  let v1062 : BitVec 32 := Scalar.addi c0_i32_1145 v1061
  v1062.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1173 : BitVec 32 := 32#32
  let v1092 : BitVec 32 := Scalar.addi v2 c32_i32_1173
  let c16_i32_1174 : BitVec 32 := 16#32
  let v1093 : BitVec 32 := Scalar.remsi v1092 c16_i32_1174
  let c256_i32_1175 : BitVec 32 := 256#32
  let v1094 : BitVec 32 := Scalar.muli v1093 c256_i32_1175
  let v1095 : Index := Scalar.indexCast v1094
  let c0_1176 : Index := 0#32
  ![v1095.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1145 : Index := Scalar.indexCast v2
  let c0_1217 : Index := 0#32
  ![v1145.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1224 : BitVec 32 := 0#32
  ![v2.toNat, 0]
def k0_dev33 (d0 : Dev nD) : Nat :=
  let c0_i32_1223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1218 : BitVec 32 := 1#32
  let v1149 : BitVec 32 := Scalar.addi v2 c1_i32_1218
  let c16_i32_1219 : BitVec 32 := 16#32
  let v1150 : BitVec 32 := Scalar.remsi v1149 c16_i32_1219
  let c1_i32_1222 : BitVec 32 := 1#32
  let v1151 : BitVec 32 := Scalar.muli v1150 c1_i32_1222
  let v1152 : BitVec 32 := Scalar.addi c0_i32_1223 v1151
  v1152.toNat
def k0_dev34 (d0 : Dev nD) : Nat :=
  let c0_i32_1231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1226 : BitVec 32 := 2#32
  let v1159 : BitVec 32 := Scalar.addi v2 c2_i32_1226
  let c16_i32_1227 : BitVec 32 := 16#32
  let v1160 : BitVec 32 := Scalar.remsi v1159 c16_i32_1227
  let c1_i32_1230 : BitVec 32 := 1#32
  let v1161 : BitVec 32 := Scalar.muli v1160 c1_i32_1230
  let v1162 : BitVec 32 := Scalar.addi c0_i32_1231 v1161
  v1162.toNat
def k0_dev35 (d0 : Dev nD) : Nat :=
  let c0_i32_1239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1234 : BitVec 32 := 3#32
  let v1169 : BitVec 32 := Scalar.addi v2 c3_i32_1234
  let c16_i32_1235 : BitVec 32 := 16#32
  let v1170 : BitVec 32 := Scalar.remsi v1169 c16_i32_1235
  let c1_i32_1238 : BitVec 32 := 1#32
  let v1171 : BitVec 32 := Scalar.muli v1170 c1_i32_1238
  let v1172 : BitVec 32 := Scalar.addi c0_i32_1239 v1171
  v1172.toNat
def k0_dev36 (d0 : Dev nD) : Nat :=
  let c0_i32_1247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1242 : BitVec 32 := 4#32
  let v1179 : BitVec 32 := Scalar.addi v2 c4_i32_1242
  let c16_i32_1243 : BitVec 32 := 16#32
  let v1180 : BitVec 32 := Scalar.remsi v1179 c16_i32_1243
  let c1_i32_1246 : BitVec 32 := 1#32
  let v1181 : BitVec 32 := Scalar.muli v1180 c1_i32_1246
  let v1182 : BitVec 32 := Scalar.addi c0_i32_1247 v1181
  v1182.toNat
def k0_dev37 (d0 : Dev nD) : Nat :=
  let c0_i32_1255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1250 : BitVec 32 := 5#32
  let v1189 : BitVec 32 := Scalar.addi v2 c5_i32_1250
  let c16_i32_1251 : BitVec 32 := 16#32
  let v1190 : BitVec 32 := Scalar.remsi v1189 c16_i32_1251
  let c1_i32_1254 : BitVec 32 := 1#32
  let v1191 : BitVec 32 := Scalar.muli v1190 c1_i32_1254
  let v1192 : BitVec 32 := Scalar.addi c0_i32_1255 v1191
  v1192.toNat
def k0_dev38 (d0 : Dev nD) : Nat :=
  let c0_i32_1263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1258 : BitVec 32 := 6#32
  let v1199 : BitVec 32 := Scalar.addi v2 c6_i32_1258
  let c16_i32_1259 : BitVec 32 := 16#32
  let v1200 : BitVec 32 := Scalar.remsi v1199 c16_i32_1259
  let c1_i32_1262 : BitVec 32 := 1#32
  let v1201 : BitVec 32 := Scalar.muli v1200 c1_i32_1262
  let v1202 : BitVec 32 := Scalar.addi c0_i32_1263 v1201
  v1202.toNat
def k0_dev39 (d0 : Dev nD) : Nat :=
  let c0_i32_1271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1266 : BitVec 32 := 7#32
  let v1209 : BitVec 32 := Scalar.addi v2 c7_i32_1266
  let c16_i32_1267 : BitVec 32 := 16#32
  let v1210 : BitVec 32 := Scalar.remsi v1209 c16_i32_1267
  let c1_i32_1270 : BitVec 32 := 1#32
  let v1211 : BitVec 32 := Scalar.muli v1210 c1_i32_1270
  let v1212 : BitVec 32 := Scalar.addi c0_i32_1271 v1211
  v1212.toNat
def k0_dev40 (d0 : Dev nD) : Nat :=
  let c0_i32_1279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1274 : BitVec 32 := 8#32
  let v1219 : BitVec 32 := Scalar.addi v2 c8_i32_1274
  let c16_i32_1275 : BitVec 32 := 16#32
  let v1220 : BitVec 32 := Scalar.remsi v1219 c16_i32_1275
  let c1_i32_1278 : BitVec 32 := 1#32
  let v1221 : BitVec 32 := Scalar.muli v1220 c1_i32_1278
  let v1222 : BitVec 32 := Scalar.addi c0_i32_1279 v1221
  v1222.toNat
def k0_dev41 (d0 : Dev nD) : Nat :=
  let c0_i32_1286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v1229 : BitVec 32 := Scalar.addi v2 c9_i32
  let c16_i32_1282 : BitVec 32 := 16#32
  let v1230 : BitVec 32 := Scalar.remsi v1229 c16_i32_1282
  let c1_i32_1285 : BitVec 32 := 1#32
  let v1231 : BitVec 32 := Scalar.muli v1230 c1_i32_1285
  let v1232 : BitVec 32 := Scalar.addi c0_i32_1286 v1231
  v1232.toNat
def k0_dev42 (d0 : Dev nD) : Nat :=
  let c0_i32_1293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v1239 : BitVec 32 := Scalar.addi v2 c10_i32
  let c16_i32_1289 : BitVec 32 := 16#32
  let v1240 : BitVec 32 := Scalar.remsi v1239 c16_i32_1289
  let c1_i32_1292 : BitVec 32 := 1#32
  let v1241 : BitVec 32 := Scalar.muli v1240 c1_i32_1292
  let v1242 : BitVec 32 := Scalar.addi c0_i32_1293 v1241
  v1242.toNat
def k0_dev43 (d0 : Dev nD) : Nat :=
  let c0_i32_1300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v1249 : BitVec 32 := Scalar.addi v2 c11_i32
  let c16_i32_1296 : BitVec 32 := 16#32
  let v1250 : BitVec 32 := Scalar.remsi v1249 c16_i32_1296
  let c1_i32_1299 : BitVec 32 := 1#32
  let v1251 : BitVec 32 := Scalar.muli v1250 c1_i32_1299
  let v1252 : BitVec 32 := Scalar.addi c0_i32_1300 v1251
  v1252.toNat
def k0_dev44 (d0 : Dev nD) : Nat :=
  let c0_i32_1307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v1259 : BitVec 32 := Scalar.addi v2 c12_i32
  let c16_i32_1303 : BitVec 32 := 16#32
  let v1260 : BitVec 32 := Scalar.remsi v1259 c16_i32_1303
  let c1_i32_1306 : BitVec 32 := 1#32
  let v1261 : BitVec 32 := Scalar.muli v1260 c1_i32_1306
  let v1262 : BitVec 32 := Scalar.addi c0_i32_1307 v1261
  v1262.toNat
def k0_dev45 (d0 : Dev nD) : Nat :=
  let c0_i32_1314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v1269 : BitVec 32 := Scalar.addi v2 c13_i32
  let c16_i32_1310 : BitVec 32 := 16#32
  let v1270 : BitVec 32 := Scalar.remsi v1269 c16_i32_1310
  let c1_i32_1313 : BitVec 32 := 1#32
  let v1271 : BitVec 32 := Scalar.muli v1270 c1_i32_1313
  let v1272 : BitVec 32 := Scalar.addi c0_i32_1314 v1271
  v1272.toNat
def k0_dev46 (d0 : Dev nD) : Nat :=
  let c0_i32_1321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v1279 : BitVec 32 := Scalar.addi v2 c14_i32
  let c16_i32_1317 : BitVec 32 := 16#32
  let v1280 : BitVec 32 := Scalar.remsi v1279 c16_i32_1317
  let c1_i32_1320 : BitVec 32 := 1#32
  let v1281 : BitVec 32 := Scalar.muli v1280 c1_i32_1320
  let v1282 : BitVec 32 := Scalar.addi c0_i32_1321 v1281
  v1282.toNat
def k0_dev47 (d0 : Dev nD) : Nat :=
  let c0_i32_1328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v1289 : BitVec 32 := Scalar.addi v2 c15_i32
  let c16_i32_1324 : BitVec 32 := 16#32
  let v1290 : BitVec 32 := Scalar.remsi v1289 c16_i32_1324
  let c1_i32_1327 : BitVec 32 := 1#32
  let v1291 : BitVec 32 := Scalar.muli v1290 c1_i32_1327
  let v1292 : BitVec 32 := Scalar.addi c0_i32_1328 v1291
  v1292.toNat
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Proof.Sched.lean ====
/-
# The protocol of the ring matmul with the shared maximum, and its schedule

Sixteen devices. Device `c` sends right (`c + 1`) and left (`c - 1`). Four streams of partial sums travel:
streams 0 and 2 go right (eight hops, columns 0..1023 and 1024..2047), streams 1 and 3 go left (seven hops, the
same two column halves). Slot `j` of a stream's buffer is the source of hop `j` and slot `j + 1` of the neighbour's
buffer its destination.

Semaphores of a device, who credits them, who waits, and what a landing hands over:

* the barrier semaphore: one unit from each neighbour, the owner waits for two, once. The right neighbour's unit
  hands over that neighbour's landing slots of streams 0 and 2; the left neighbour's unit the landing slots of
  streams 1 and 3.
* the receive semaphore of hop `j` of stream `s`: credited once by the transfer from the device upstream, waited once.
  The landing hands over slot `j + 1` holding the partial sum `A s j` of the device upstream and, on streams 0 and 1,
  the right to write the receiver's row (and the rows of the devices further along) in the maximum buffer of the
  device where the partial sum started.
* the send semaphore of stream `s`: credited by the device's own transfers, one round per hop, waited after each hop.
  The landing gives the source slot back.
* the send semaphore of maximum copy `k`: credited by the device's own copy to device `c + k + 1`; gives back a share
  of the device's own row.
* the receive semaphore of maximum copy `k`: credited once by device `c - k - 1`; hands over that device's row,
  holding its maximum.

The levels: the barrier 1, the receive semaphore of hop `j` at `2 + j`, the receive semaphores of the maximum 20,
everything else 0. A device pays its duties in the order of `dues`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdxCore

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2 idx2_lt0 idx2_lt1)
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero. -/
def s₀ : MemSt nD τ sig (Elt F) := ⟨m, fun _ => 0, ρ⟩

/-! ## The ring -/

set_option backward.proofsInPublic true in
/-- The device `k` places to the right. -/
def rot (k : ℕ) (c : Dev nD) : Dev nD := ⟨(c.val + k) % 16, Nat.mod_lt _ (by decide)⟩

theorem rot_rot (a b : ℕ) (c : Dev nD) : rot a (rot b c) = rot (b + a) c := by
  apply Fin.ext; show ((c.val + b) % 16 + a) % 16 = (c.val + (b + a)) % 16; omega

theorem rot_of_dvd (k : ℕ) (h : k % 16 = 0) (c : Dev nD) : rot k c = c := by
  apply Fin.ext; show (c.val + k) % 16 = c.val; have := c.isLt; have h2 : c.val < 16 := this; omega

/-- Which way stream `s` goes: one place right, or fifteen places right, which is one place left. -/
def step : Fin 4 → ℕ | 0 => 1 | 1 => 15 | 2 => 1 | 3 => 15
/-- The number of hops of stream `s`. -/
def hops : Fin 4 → ℕ | 0 => 8 | 1 => 7 | 2 => 8 | 3 => 7
/-- Which half of the columns stream `s` carries. -/
def half : Fin 4 → ℕ | 0 => 0 | 1 => 0 | 2 => 1 | 3 => 1

/-- The device downstream of `c` on stream `s`, and the one upstream. -/
def tgt (s : Fin 4) (c : Dev nD) : Dev nD := rot (step s) c
def src (s : Fin 4) (c : Dev nD) : Dev nD := rot (16 - step s) c

theorem src_tgt (s : Fin 4) (c : Dev nD) : src s (tgt s c) = c := by
  unfold src tgt; rw [rot_rot]; exact rot_of_dvd _ (by fin_cases s <;> rfl) c
theorem tgt_src (s : Fin 4) (c : Dev nD) : tgt s (src s c) = c := by
  unfold src tgt; rw [rot_rot]; exact rot_of_dvd _ (by fin_cases s <;> rfl) c

set_option backward.proofsInPublic true in
/-- Rotation by `k` places as a permutation of the devices. -/
def rotE (k : ℕ) : Dev nD ≃ Dev nD where
  toFun := rot k
  invFun := rot (16 - k % 16)
  left_inv c := by rw [rot_rot]; exact rot_of_dvd _ (by omega) c
  right_inv c := by rw [rot_rot]; exact rot_of_dvd _ (by omega) c

/-! ## The memrefs -/

abbrev xM : Memref sig .tc .vmem S4096x256 .bf16 := Memref.whole cc0_stg0_0
abbrev wM : Memref sig .tc .vmem S256x2048 .bf16 := Memref.whole cc0_stg1_0
abbrev oM : Memref sig .tc .vmem S256x2048 .f32 := Memref.whole cc0_stg2_0
abbrev xbM : Memref sig .tc .vmem S4096x256 .bf16 := Memref.whole cc0_scratch0
abbrev wbM : Memref sig .tc .vmem S256x2048 .bf16 := Memref.whole cc0_scratch1
abbrev aM : Memref sig .tc .vmem S16x128 .f32 := Memref.whole cc0_scratch6

/-- A buffer of `n` slots. -/
abbrev SN (n : ℕ) : Shape := ⟨3, ![n, 256, 1024]⟩

theorem inbS (n k : ℕ) : ∀ a, (![min k n, 0, 0] : Fin 3 → ℕ) a + S1x256x1024.size a ≤ (SN (n + 1)).size a := by
  intro a; fin_cases a
  · show min k n + 1 ≤ n + 1; omega
  · show 0 + 256 ≤ 256; omega
  · show 0 + 1024 ≤ 1024; omega

/-- The place of slot `k` in a buffer of `n + 1` slots, and the slot. -/
abbrev slR (n k : ℕ) : Rect (SN (n + 1)) := Rect.unit (s := SN (n + 1)) ![min k n, 0, 0] S1x256x1024.size (inbS n k)
def sl (n : ℕ) (M : Memref sig .tc .vmem (SN (n + 1)) .bf16) (k : ℕ) : Memref sig .tc .vmem S256x1024 .bf16 :=
  (M.slice (slR n k) (fun _ => rfl)).squeeze S256x1024 squeezes_S1x256x1024_S256x1024

/-- Slot `k` of stream `s`'s buffer. -/
def slot (s : Fin 4) (k : ℕ) : Memref sig .tc .vmem S256x1024 .bf16 :=
  match s with
  | 0 => sl 8 (Memref.whole cc0_scratch2) k
  | 1 => sl 7 (Memref.whole cc0_scratch4) k
  | 2 => sl 8 (Memref.whole cc0_scratch3) k
  | 3 => sl 7 (Memref.whole cc0_scratch5) k

/-- Row `r` of the maximum buffer. -/
def rowM (r : Dev nD) : Memref sig .tc .vmem S1x128 .f32 :=
  aM.slice (Rect.unit (s := S16x128) (k0_off5 r) S1x128.size (k0_off5_inb r)) (fun _ => rfl)

/-! ## The semaphores -/

abbrev barS : Sem sig := (SemArray.scalar (sig.barrier 0 rfl) : Sems sig S_).sem

def sndB : Fin 4 → ℕ | 0 => 3 | 1 => 5 | 2 => 4 | 3 => 6
def rcvB : Fin 4 → ℕ | 0 => 7 | 1 => 23 | 2 => 15 | 3 => 30

set_option backward.proofsInPublic true in
def dq (i : ℕ) : DmaSem sig := ⟨i % 67, Nat.mod_lt _ (by decide)⟩

def sndQ (s : Fin 4) : DmaSem sig := dq (sndB s)
def rcvQ (s : Fin 4) (j : ℕ) : DmaSem sig := dq (rcvB s + j)
def asQ (k : ℕ) : DmaSem sig := dq (37 + k)
def arQ (k : ℕ) : DmaSem sig := dq (52 + k)

abbrev barC (c : Dev nD) : GSem nD τ sig := ((c : Thread nD τ), .reg barS)
abbrev sndC (s : Fin 4) (c : Dev nD) : GSem nD τ sig := ((c : Thread nD τ), .dma (sndQ s))
abbrev rcvC (s : Fin 4) (j : ℕ) (c : Dev nD) : GSem nD τ sig := ((c : Thread nD τ), .dma (rcvQ s j))
abbrev asC (k : ℕ) (c : Dev nD) : GSem nD τ sig := ((c : Thread nD τ), .dma (asQ k))
abbrev arC (k : ℕ) (c : Dev nD) : GSem nD τ sig := ((c : Thread nD τ), .dma (arQ k))

/-- The units of one hop and of one copy of a row. -/
def NS : ℕ := (slot 0 0).view.dmaCredit
def NA : ℕ := (rowM 0).view.dmaCredit
theorem NS_pos : 0 < NS := View.dmaCredit_pos _ (by decide)
theorem NA_pos : 0 < NA := View.dmaCredit_pos _ (by decide)
theorem slot_credit (s : Fin 4) (k : ℕ) : (slot s k).view.dmaCredit = NS := by fin_cases s <;> rfl
theorem row_credit (r : Dev nD) : (rowM r).view.dmaCredit = NA := rfl

/-! ## The contents -/

/-- Device `c`'s blocks of the two operands, as its staging buffers hold them. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- The copies the kernel works from. -/
def xbC (c : Dev nD) : Vec F S4096x256 .bf16 := k0_pay2 (xstg m ρ c)
def wbC (c : Dev nD) : Vec F S256x2048 .bf16 := k0_pay3 (wstg m ρ c)

theorem inbX (r : ℕ) : ∀ a, (![256 * (r % 16), 0] : Fin 2 → ℕ) a + S256x256.size a ≤ S4096x256.size a := by
  intro a; fin_cases a
  · show 256 * (r % 16) + 256 ≤ 4096; omega
  · show 0 + 256 ≤ 256; omega
theorem inbW (h : ℕ) : ∀ a, (![0, 1024 * (h % 2)] : Fin 2 → ℕ) a + S256x1024.size a ≤ S256x2048.size a := by
  intro a; fin_cases a
  · show 0 + 256 ≤ 256; omega
  · show 1024 * (h % 2) + 1024 ≤ 2048; omega

/-- The rows of chunk `r` of `x`, and half `h` of the columns of `w`. -/
def xrows (c : Dev nD) (r : ℕ) : Vec F S256x256 .bf16 :=
  xbM.view.readAt (Elt F) (Rect.unit (s := S4096x256) ![256 * (r % 16), 0] S256x256.size (inbX r)).toLoadRect (xbC m ρ c)
def wcols (c : Dev nD) (h : ℕ) : Vec F S256x1024 .bf16 :=
  wbM.view.readAt (Elt F) (Rect.unit (s := S256x2048) ![0, 1024 * (h % 2)] S256x1024.size (inbW h)).toLoadRect (wbC m ρ c)

/-- The chunk device `c` adds to stream `s` before hop `j`. -/
def chunkN (s : Fin 4) (c : Dev nD) (j : ℕ) : ℕ :=
  match s with
  | 0 => c.val + 40 - j
  | 1 => c.val + j + 25
  | 2 => c.val + 40 - j
  | 3 => c.val + j + 25

/-- One tile product, the partial sum it starts, and the partial sum it extends. -/
def tileMM (x : Vec F S256x256 .bf16) (w : Vec F S256x1024 .bf16) : FVec F S256x1024 .f32 :=
  matmul dot_S256x256_S256x1024_S256x1024_1_0_0_1_n_n none x w (constant S256x1024 .f32 0x00000000#32)
def accZ (x : Vec F S256x256 .bf16) (w : Vec F S256x1024 .bf16) : Vec F S256x1024 .bf16 :=
  truncf .bf16 (tileMM x w) bitsLt_bf16_f32
def accS (v : Vec F S256x1024 .bf16) (x : Vec F S256x256 .bf16) (w : Vec F S256x1024 .bf16) : Vec F S256x1024 .bf16 :=
  truncf .bf16 (addf (extf .f32 v bitsLt_bf16_f32) (tileMM x w)) bitsLt_bf16_f32

/-- The partial sum device `c` sends at hop `j` of stream `s`. -/
def A (s : Fin 4) : ℕ → Dev nD → Vec F S256x1024 .bf16
  | 0, c => accZ (xrows m ρ c (chunkN s c 0)) (wcols m ρ c (half s))
  | j + 1, c => accS (A s j (src s c)) (xrows m ρ c (chunkN s c (j + 1))) (wcols m ρ c (half s))

/-- A finished half: the two arrived partial sums and the device's own tile. -/
def fin2 (a b : Vec F S256x1024 .bf16) (x : Vec F S256x256 .bf16) (w : Vec F S256x1024 .bf16) : FVec F S256x1024 .f32 :=
  addf (addf (extf .f32 a bitsLt_bf16_f32) (extf .f32 b bitsLt_bf16_f32)) (tileMM x w)

def yL (c : Dev nD) : FVec F S256x1024 .f32 := fin2 (A m ρ 0 7 (src 0 c)) (A m ρ 1 6 (src 1 c)) (xrows m ρ c (c.val + 32)) (wcols m ρ c 0)
def yR (c : Dev nD) : FVec F S256x1024 .f32 := fin2 (A m ρ 2 7 (src 2 c)) (A m ρ 3 6 (src 3 c)) (xrows m ρ c (c.val + 32)) (wcols m ρ c 1)

/-- The largest magnitude of a half. -/
def hmax (y : FVec F S256x1024 .f32) : F .f32 :=
  extractAt ![0, 0, 0] (shapeCast S1x1x1 (multiReduction .maximumf [1, 2] S1 (shapeCast S1x256x1024 (absf y) shapeCasts_S256x1024_S1x256x1024)
    0xFF800000#32 reduces_S1x256x1024_S1 (.inl rfl) rfl) shapeCasts_S1_S1x1x1) inpos_S1x1x1_p0_0_0

/-- The largest magnitude on device `c`. -/
def amv (c : Dev nD) : F .f32 := Scalar.maximumf (hmax (yL m ρ c)) (hmax (yR m ρ c))

/-- The maximum buffer once every row has arrived. -/
def AM : Vec F S16x128 .f32 := fun i => amv m ρ (show Dev nD from i 0)

/-- Both halves side by side. -/
def yF (c : Dev nD) : Vec F S256x2048 .f32 := fun i =>
  if h : (i 1).val < 1024 then yL m ρ c (ix2 (i 0) ⟨(i 1).val, h⟩)
  else yR m ρ c (ix2 (i 0) ⟨(i 1).val - 1024, by have := idx2_lt1 i; omega⟩)

/-- The result of device `c`. -/
def outAt (c : Dev nD) : Vec F S256x2048 .f32 := k0_pay1 (AM m ρ) (yF m ρ c)

/-! ## The assertions that travel -/

/-- The same, as contents of device `o`'s buffer. -/
def AMb (o r : Dev nD) : Buf (Elt F) ((rowM r).view.loc (o : Thread nD τ)) := AM m ρ

/-- Slot `k` of stream `s` of device `c` at some contents, and holding `X`. -/
def slotAny (s : Fin 4) (k : ℕ) (c : Dev nD) : sProp 𝕄 :=
  iprop(∃ f : Buf (Elt F) ((slot s k).view.loc (c : Thread nD τ)), (slot s k).view.loc (c : Thread nD τ) ↦[(slot s k).view.set]{fullShare} f)
def slotIs (s : Fin 4) (k : ℕ) (c : Dev nD) (X : Vec F S256x1024 .bf16) : sProp 𝕄 :=
  owns (Ix := Unit) (Name := ℕ) (U := UU) (Lvl := ℕ) (c : Thread nD τ) (slot s k) fullShare X

/-- Row `r` of the maximum buffer of device `o`: at some contents, and holding its final contents at share `q`. -/
def rowAny (o r : Dev nD) : sProp 𝕄 :=
  iprop(∃ f : Buf (Elt F) ((rowM r).view.loc (o : Thread nD τ)), (rowM r).view.loc (o : Thread nD τ) ↦[(rowM r).view.set]{fullShare} f)
def rowIs (o r : Dev nD) (q : PosShare TreeShare) : sProp 𝕄 :=
  (rowM r).view.loc (o : Thread nD τ) ↦[(rowM r).view.set]{q} AMb m ρ o r

/-- The `n` rows of device `o`'s maximum buffer that belong to the `n` devices downstream of `c`. -/
def rowsN (s : Fin 4) : ℕ → Dev nD → Dev nD → sProp 𝕄
  | 0, _, _ => iprop(emp)
  | n + 1, o, c => iprop(rowAny o (tgt s c) ∗ rowsN s n o (tgt s c))

/-- Streams 0 and 1 carry rows; what hop `j` from `c` carries, and what device `c` keeps of hop `j`'s. -/
def ride (s : Fin 4) (j : ℕ) (c : Dev nD) : sProp 𝕄 :=
  if s.val < 2 then rowsN s (hops s - j) ((src s)^[j] c) c else iprop(emp)
def kept (s : Fin 4) (j : ℕ) (c : Dev nD) : sProp 𝕄 :=
  if s.val < 2 then rowAny ((src s)^[j + 1] c) c else iprop(emp)

/-- The share of the own row lent to copy `k`, and what is left after `k` copies. -/
def shRest : ℕ → PosShare TreeShare | 0 => fullShare | k + 1 => (shRest k).right
def shOut (k : ℕ) : PosShare TreeShare := (shRest k).left

/-- What the barrier's two units hand device `c`: the landing slots downstream of it on the streams that go that way. -/
def lands (s : Fin 4) (c : Dev nD) : sProp 𝕄 := bigSep (Finset.Ico 0 (hops s)) fun j => slotAny s (j + 1) (tgt s c)
def barPay (c : Dev nD) (d : Bool) : sProp 𝕄 := if d then iprop(lands 0 c ∗ lands 2 c) else iprop(lands 1 c ∗ lands 3 c)

def sndPay (s : Fin 4) (c : Dev nD) (j : ℕ) : sProp 𝕄 := slotIs s j c (A m ρ s j c)
def rcvPay (s : Fin 4) (c : Dev nD) (j : ℕ) : sProp 𝕄 :=
  iprop(slotIs s (j + 1) c (A m ρ s j (src s c)) ∗ ride s j (src s c))
def asPay (c : Dev nD) (k : ℕ) : sProp 𝕄 := rowIs m ρ c c (shOut k)
def arPay (c : Dev nD) (k : ℕ) : sProp 𝕄 := rowIs m ρ c (rot (15 - k) c) fullShare

/-- The payload of the cell of transfer semaphore `i` of device `c` at round `r`. -/
def dmaPay (c : Dev nD) (i r : ℕ) : sProp 𝕄 :=
  if i = 3 then sndPay m ρ 0 c r else if i = 4 then sndPay m ρ 2 c r else if i = 5 then sndPay m ρ 1 c r else if i = 6 then sndPay m ρ 3 c r
  else if i < 15 then rcvPay m ρ 0 c (i - 7) else if i < 23 then rcvPay m ρ 2 c (i - 15) else if i < 30 then rcvPay m ρ 1 c (i - 23)
  else if i < 37 then rcvPay m ρ 3 c (i - 30) else if i < 52 then asPay m ρ c (i - 37) else arPay m ρ c (i - 52)

omit [FloatOps F] in
instance slotAny_storable (s : Fin 4) (k : ℕ) (c : Dev nD) : BI.Storable (upEmb : UEmb _ 𝕄) (slotAny (F := F) s k c) := by unfold slotAny; infer_instance
omit [FloatOps F] in
instance slotIs_storable (s : Fin 4) (k : ℕ) (c : Dev nD) (X : Vec F S256x1024 .bf16) : BI.Storable (upEmb : UEmb _ 𝕄) (slotIs (F := F) s k c X) := by unfold slotIs; infer_instance
omit [FloatOps F] in
instance rowAny_storable (o r : Dev nD) : BI.Storable (upEmb : UEmb _ 𝕄) (rowAny (F := F) o r) := by unfold rowAny; infer_instance
instance rowIs_storable (o r : Dev nD) (q) : BI.Storable (upEmb : UEmb _ 𝕄) (rowIs (F := F) m ρ o r q) := by unfold rowIs; infer_instance
omit [FloatOps F] in
instance rowsN_storable (s : Fin 4) (n : ℕ) (o c : Dev nD) : BI.Storable (upEmb : UEmb _ 𝕄) (rowsN (F := F) s n o c) := by
  induction n generalizing c with
  | zero => unfold rowsN; infer_instance
  | succ n ih => unfold rowsN; have := ih (tgt s c); infer_instance
omit [FloatOps F] in
instance ride_storable (s : Fin 4) (j : ℕ) (c : Dev nD) : BI.Storable (upEmb : UEmb _ 𝕄) (ride (F := F) s j c) := by
  unfold ride; split <;> infer_instance
omit [FloatOps F] in
instance lands_storable (s : Fin 4) (c : Dev nD) : BI.Storable (upEmb : UEmb _ 𝕄) (lands (F := F) s c) := by unfold lands; infer_instance
instance dmaPay_storable (c : Dev nD) (i r : ℕ) : BI.Storable (upEmb : UEmb _ 𝕄) (dmaPay (F := F) m ρ c i r) := by
  unfold dmaPay sndPay rcvPay asPay arPay; (repeat' split) <;> infer_instance

/-! ## The schedule -/

/-- The number of rounds of transfer semaphore `i`. -/
def rnds (i : ℕ) : ℕ := if i < 3 then 0 else if i < 5 then 8 else if i < 7 then 7 else 1

def Rd : Rounds.Schedule (GSem nD τ sig) Bool 𝕄 where
  duties g r := if g.1.2 = .tc then (match g.2 with
    | .reg _ => if r = 0 then Finset.univ else ∅
    | .dma q => if r < rnds q.val then {false} else ∅) else ∅
  unitless _ := False
  amount g _ _ := match g.2 with | .reg _ => 1 | .dma q => if q.val < 37 then NS else NA
  payload g r d := match g.2 with | .reg _ => barPay g.1.1 d | .dma q => dmaPay m ρ g.1.1 q.val r
  amount_pos g _ _ _ := by
    rcases g with ⟨t, _ | q⟩
    · exact Nat.one_pos
    · show 0 < if q.val < 37 then NS else NA
      split
      · exact NS_pos
      · exact NA_pos

instance Rd_payload_storable (g : GSem nD τ sig) (r : ℕ) (d : Bool) : BI.Storable (upEmb : UEmb _ 𝕄) ((Rd (F := F) m ρ).payload g r d) := by
  rcases g with ⟨t, _ | q⟩
  · show BI.Storable upEmb (barPay t.1 d)
    unfold barPay; split <;> infer_instance
  · show BI.Storable upEmb (dmaPay m ρ t.1 q.val r)
    infer_instance

section Tables
variable (c : Dev nD)

theorem dq_val (i : ℕ) (h : i < 67) : (dq i).val = i := Nat.mod_eq_of_lt h

theorem hops_le (s : Fin 4) : hops s ≤ 8 := by fin_cases s <;> decide
theorem rcv_lt (s : Fin 4) (j : ℕ) (h : j < hops s) : 7 ≤ rcvB s + j ∧ rcvB s + j < 37 := by
  fin_cases s <;> (simp only [hops, rcvB] at h ⊢; omega)
theorem rcvQ_val (s : Fin 4) (j : ℕ) (h : j < hops s) : (rcvQ s j).val = rcvB s + j := dq_val _ (by have := (rcv_lt s j h).2; omega)

theorem duties_bar : (Rd (F := F) m ρ).duties (barC c) 0 = Finset.univ := rfl
theorem duties_dma (q : DmaSem sig) (r : ℕ) (h : r < rnds q.val) :
    (Rd (F := F) m ρ).duties ((c : Thread nD τ), .dma q) r = {false} := if_pos h
theorem duties_dma_done (q : DmaSem sig) (n : ℕ) (h : rnds q.val ≤ n) :
    ∀ r, n ≤ r → (Rd (F := F) m ρ).duties ((c : Thread nD τ), .dma q) r = ∅ := fun r hr => if_neg (by omega)
theorem duties_bar_done : ∀ r, 1 ≤ r → (Rd (F := F) m ρ).duties (barC c) r = ∅ := fun r hr => if_neg (by omega)

theorem rnds_snd (s : Fin 4) : rnds (sndQ s).val = hops s := by fin_cases s <;> rfl
theorem rnds_rcv (s : Fin 4) (j : ℕ) (h : j < hops s) : rnds (rcvQ s j).val = 1 := by
  rw [rcvQ_val s j h]; have := rcv_lt s j h; unfold rnds; rw [if_neg (by omega), if_neg (by omega), if_neg (by omega)]
theorem rnds_as (k : ℕ) (h : k < 15) : rnds (asQ k).val = 1 := by
  unfold asQ; rw [dq_val _ (by omega)]; unfold rnds; rw [if_neg (by omega), if_neg (by omega), if_neg (by omega)]
theorem rnds_ar (k : ℕ) (h : k < 15) : rnds (arQ k).val = 1 := by
  unfold arQ; rw [dq_val _ (by omega)]; unfold rnds; rw [if_neg (by omega), if_neg (by omega), if_neg (by omega)]

theorem amount_small (q : DmaSem sig) (h : q.val < 37) (r : ℕ) (d : Bool) : (Rd (F := F) m ρ).amount ((c : Thread nD τ), .dma q) r d = NS := if_pos h
theorem amount_big (q : DmaSem sig) (h : ¬ q.val < 37) (r : ℕ) (d : Bool) : (Rd (F := F) m ρ).amount ((c : Thread nD τ), .dma q) r d = NA := if_neg h

theorem snd_small (s : Fin 4) : (sndQ s).val < 37 := by fin_cases s <;> decide
theorem rcv_small (s : Fin 4) (j : ℕ) (h : j < hops s) : (rcvQ s j).val < 37 := by rw [rcvQ_val s j h]; exact (rcv_lt s j h).2
theorem as_big (k : ℕ) (h : k < 15) : ¬ (asQ k).val < 37 := by unfold asQ; rw [dq_val _ (by omega)]; omega
theorem ar_big (k : ℕ) (h : k < 15) : ¬ (arQ k).val < 37 := by unfold arQ; rw [dq_val _ (by omega)]; omega

theorem payload_snd (s : Fin 4) (r : ℕ) (d : Bool) : (Rd (F := F) m ρ).payload (sndC s c) r d = sndPay m ρ s c r := by
  fin_cases s <;> rfl
theorem payload_rcv (s : Fin 4) (j : ℕ) (h : j < hops s) (r : ℕ) (d : Bool) : (Rd (F := F) m ρ).payload (rcvC s j c) r d = rcvPay m ρ s c j := by
  show dmaPay m ρ c (rcvQ s j).val r = _
  rw [rcvQ_val s j h]
  have h7 := rcv_lt s j h
  match s, h with
  | 0, h =>
    have h' : j < 8 := h
    show dmaPay m ρ c (7 + j) r = _
    unfold dmaPay
    rw [if_neg (by omega), if_neg (by omega), if_neg (by omega), if_neg (by omega), if_pos (by omega), Nat.add_sub_cancel_left]
  | 1, h =>
    have h' : j < 7 := h
    show dmaPay m ρ c (23 + j) r = _
    unfold dmaPay
    rw [if_neg (by omega), if_neg (by omega), if_neg (by omega), if_neg (by omega), if_neg (by omega), if_neg (by omega), if_pos (by omega), Nat.add_sub_cancel_left]
  | 2, h =>
    have h' : j < 8 := h
    show dmaPay m ρ c (15 + j) r = _
    unfold dmaPay
    rw [if_neg (by omega), if_neg (by omega), if_neg (by omega), if_neg (by omega), if_neg (by omega), if_pos (by omega), Nat.add_sub_cancel_left]
  | 3, h =>
    have h' : j < 7 := h
    show dmaPay m ρ c (30 + j) r = _
    unfold dmaPay
    rw [if_neg (by omega), if_neg (by omega), if_neg (by omega), if_neg (by omega), if_neg (by omega), if_neg (by omega), if_neg (by omega), if_pos (by omega), Nat.add_sub_cancel_left]
theorem payload_as (k : ℕ) (h : k < 15) (r : ℕ) (d : Bool) : (Rd (F := F) m ρ).payload (asC k c) r d = asPay m ρ c k := by
  show dmaPay m ρ c (asQ k).val r = _
  unfold asQ; rw [dq_val _ (by omega)]; unfold dmaPay
  rw [if_neg (by omega), if_neg (by omega), if_neg (by omega), if_neg (by omega), if_neg (by omega), if_neg (by omega), if_neg (by omega), if_neg (by omega),
    if_pos (by omega)]
  congr 1; omega
theorem payload_ar (k : ℕ) (h : k < 15) (r : ℕ) (d : Bool) : (Rd (F := F) m ρ).payload (arC k c) r d = arPay m ρ c k := by
  show dmaPay m ρ c (arQ k).val r = _
  unfold arQ; rw [dq_val _ (by omega)]; unfold dmaPay
  rw [if_neg (by omega), if_neg (by omega), if_neg (by omega), if_neg (by omega), if_neg (by omega), if_neg (by omega), if_neg (by omega), if_neg (by omega),
    if_neg (by omega)]
  congr 1; omega

theorem expect_bar : (Rd (F := F) m ρ).expect (barC c) 0 = 2 := by
  unfold Schedule.expect Schedule.amountOf; rw [duties_bar]; rfl
theorem expect_dma (q : DmaSem sig) (r : ℕ) (h : r < rnds q.val) (N : ℕ) (hN : (Rd (F := F) m ρ).amount ((c : Thread nD τ), .dma q) r false = N) :
    (Rd (F := F) m ρ).expect ((c : Thread nD τ), .dma q) r = N := by
  unfold Schedule.expect Schedule.amountOf; rw [duties_dma m ρ c q r h, Finset.sum_singleton, hN]

/-- The rest of a one-duty round is its payload. -/
theorem rest_dma (q : DmaSem sig) (r : ℕ) (h : r < rnds q.val) :
    bigSep ((Rd (F := F) m ρ).duties ((c : Thread nD τ), .dma q) r \ ∅) (fun d => (Rd (F := F) m ρ).payload ((c : Thread nD τ), .dma q) r d)
      = (Rd (F := F) m ρ).payload ((c : Thread nD τ), .dma q) r false := by
  rw [Finset.sdiff_empty, duties_dma m ρ c q r h, bigSep_singleton]

theorem rest_bar : bigSep ((Rd (F := F) m ρ).duties (barC c) 0 \ ∅) (fun d => (Rd (F := F) m ρ).payload (barC c) 0 d)
    = iprop((lands 1 c ∗ lands 3 c) ∗ (lands 0 c ∗ lands 2 c)) := by
  rw [Finset.sdiff_empty, duties_bar, bigSep_univ_eq_bigSepL [false, true] (by decide) (by decide), bigSepL_cons_cons, bigSepL_singleton]
  rfl

end Tables

/-! ## The duties, in the order a device pays them -/

structure Due where
  /-- how many places to the right the cell's device is -/
  k : ℕ
  sem : SemLoc sig
  amt : ℕ
  nm : Bool

def hopDue (s : Fin 4) (j : ℕ) : Due := ⟨step s, .dma (rcvQ s j), NS, false⟩
def maxDue (k : ℕ) : Due := ⟨k + 1, .dma (arQ k), NA, false⟩
def barDues : List Due := [⟨15, .reg barS, 1, true⟩, ⟨1, .reg barS, 1, false⟩]

abbrev Due.cell (e : Due) (c : Dev nD) : GSem nD τ sig := ((rot e.k c : Thread nD τ), e.sem)
abbrev Due.own (e : Due) (c : Dev nD) : GSem nD τ sig := ((c : Thread nD τ), e.sem)

def hopsOf (j : ℕ) : List Due := [hopDue 0 j, hopDue 1 j, hopDue 2 j, hopDue 3 j]
def dues : List Due :=
  barDues ++ (hopsOf 0 ++ (hopsOf 1 ++ (hopsOf 2 ++ (hopsOf 3 ++ (hopsOf 4 ++ (hopsOf 5 ++ (hopsOf 6 ++ ([hopDue 0 7, hopDue 2 7] ++
    [maxDue 0, maxDue 1, maxDue 2, maxDue 3, maxDue 4, maxDue 5, maxDue 6, maxDue 7, maxDue 8, maxDue 9, maxDue 10, maxDue 11, maxDue 12, maxDue 13, maxDue 14]))))))))

/-- The tally of a list of duties, the first one peeled last. -/
def tal (f : Due → GSem nD τ sig) : List Due → CellTallies nD τ sig Unit
  | [] => 0
  | e :: l => tal f l + tallyAt (f e) () e.amt

def O₀ (c : Dev nD) : CellTallies nD τ sig Unit := tal (fun e => e.cell c) dues

def L (g : GSem nD τ sig) : Finset Unit := if g.1.2 = .tc then {()} else ∅
def lvS : SemLoc sig → ℕ
  | .reg _ => 1
  | .dma q => if q.val < 7 then 0 else if q.val < 15 then q.val - 7 + 2 else if q.val < 23 then q.val - 15 + 2 else if q.val < 30 then q.val - 23 + 2
      else if q.val < 37 then q.val - 30 + 2 else if q.val < 52 then 0 else 20
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem tal_pos (f : Due → GSem nD τ sig) (l : List Due) {g : GSem nD τ sig} {u : Unit} (h : 0 < tal f l g u) : ∃ e ∈ l, g = f e := by
  induction l with
  | nil => exact absurd h (Nat.lt_irrefl 0)
  | cons e l ih =>
    unfold tal at h
    rw [Pi.add_apply, Finsupp.add_apply, tallyAt_apply] at h
    by_cases h1 : g = f e ∧ u = ()
    · exact ⟨e, List.mem_cons_self, h1.1⟩
    · rw [if_neg h1, Nat.add_zero] at h
      obtain ⟨e', he', hg⟩ := ih h
      exact ⟨e', List.mem_cons_of_mem _ he', hg⟩

/-- A wait at a level below all the duties still owed is allowed. -/
theorem mayWait (c : Dev nD) (sm : SemLoc sig) (l : List Due) (h : ∀ e ∈ l, lvS sm < lvS e.sem) :
    (levAts L lv : sProp 𝕄) ⊢ MayWait (c : Thread nD τ) sm () (tal (fun e => e.cell c) l) :=
  MayOwe.of_cut (L := L) (lev := lv) (lvS sm) (fun p hp => by rw [Finset.mem_singleton.mp hp, L_tc]; exact Finset.mem_singleton_self _)
    (fun g u hg => by obtain ⟨e, -, rfl⟩ := tal_pos _ l hg; rw [L_tc]; exact Finset.mem_singleton_self _)
    (fun p hp => by rw [Finset.mem_singleton.mp hp]; exact Nat.le_refl _)
    (fun g u hg => by obtain ⟨e, he, rfl⟩ := tal_pos _ l hg; exact h e he)

/-! ## The cells, and what a body knows of every one of them -/

abbrev CellIx : Type := Dev nD × (Fin 64 ⊕ Unit)

set_option backward.proofsInPublic true in
/-- The kernel's own semaphores: the sixty-four transfer semaphores after the staging ones. -/
def osem (k : Fin 64) : SemLoc sig := .dma (dq (k.val + 3))
def csem : Fin 64 ⊕ Unit → SemLoc sig | .inl k => osem k | .inr _ => .reg barS
abbrev kcell (x : CellIx) : GSem nD τ sig := ((x.1 : Thread nD τ), csem x.2)

/-- A cell has its invariant, under some name, and has reached its first round. -/
def known (g : GSem nD τ sig) : sProp 𝕄 := iprop((∃ κ : ℕ, cellInv ER (Rd (F := F) m ρ) κ g) ∗ reached (ER (F := F)) g 0)
instance known_persistent (g : GSem nD τ sig) : Persistent (known (F := F) m ρ g) := by unfold known; infer_instance

def records : sProp 𝕄 := bigSep (Finset.univ : Finset CellIx) fun x => known m ρ (kcell x)
instance records_persistent : Persistent (records (F := F) m ρ) := by unfold records; infer_instance

theorem known_of (x : CellIx) : records (F := F) m ρ ⊢ known m ρ (kcell x) := bigSep_elim (Finset.mem_univ x)
theorem known_bar (c : Dev nD) : records (F := F) m ρ ⊢ known m ρ (barC c) := known_of m ρ (c, .inr ())
theorem known_dma (c : Dev nD) (q : DmaSem sig) (h : 3 ≤ q.val) : records (F := F) m ρ ⊢ known m ρ ((c : Thread nD τ), .dma q) := by
  have hq : q.val < 67 := q.isLt
  have := known_of (F := F) m ρ (c, .inl ⟨q.val - 3, by omega⟩)
  have e : dq (q.val - 3 + 3) = q := by apply Fin.ext; show (q.val - 3 + 3) % 67 = q.val; omega
  simpa only [kcell, csem, osem, e] using this

/-- What a device still has to pay: its debt and the tokens of the duties from the `n`-th on. -/
def Pay (c : Dev nD) (n : ℕ) : sProp 𝕄 :=
  iprop((∃ W, owes (c : Thread nD τ) (tal (fun e => e.cell c) (dues.drop n)) W) ∗ bigSepL (dues.drop n) (fun e => dutyTok (ER (F := F)) (e.cell c) 0 e.nm))

end Cert.Ring

end
-- ==== Proof.Steps.lean ====
/-
# One lemma for each kind of effect the body performs

Every lemma takes the standing facts `records` and what the effect needs, at a symbolic device. The memrefs, semaphores and
devices of the effect are variables with an equation saying which they are.
-/
module

public import proofs.«01_k».proof.Proof.Sched
public import Idealize.ShloMosaic.Lib.Pipeline.BigSepL
public import Idealize.ShloMosaic.Lib.Pipeline.Value
public import Idealize.SL.BI.BigOpNat

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {α : Type} {Q : α → sProp (MT nD τ sig Unit (Elt F) ℕ UU ℕ)} {k : PUnit → Prog (TpuEff nD τ sig (Elt F) Λ₀ .tc) α}

theorem rnds_pos {i r : ℕ} (h : r < rnds i) : 3 ≤ i := by
  unfold rnds at h; split at h <;> omega

/-- A wait for one round of a transfer semaphore of one's own, while the duties from the `n`-th on are owed. -/
theorem wait_dma (c : Dev nD) (q : DmaSem sig) (r n N : ℕ) (h : r < rnds q.val) (hA : (Rd (F := F) m ρ).amount ((c : Thread nD τ), .dma q) r false = N)
    (hl : ∀ e ∈ dues.drop n, lvS (.dma q) < lvS e.sem)
    {sem : DmaSem sig} (hq : sem = q) {sp sp' : Space} {s s' : Shape} {e e' : EltTy} {sr : Memref sig .tc sp' s' e'} {dst : Memref sig .tc sp s e}
    (hN : dst.view.dmaCredit = N) {h1 : sr.view.WordExact} {h2 : dst.view.WordExact} :
    iprop(records (F := F) m ρ ∗ levAts L lv ∗ cred (tallyAt ((c : Thread nD τ), .dma q) () N) ∗ Pay c n
        ∗ atPos (ER (F := F)) ((c : Thread nD τ), .dma q) r ∅ 0)
      ⊢ iprop(((Pay c n ∗ atPos (ER (F := F)) ((c : Thread nD τ), .dma q) (r + 1) ∅ 0 ∗ reached (ER (F := F)) ((c : Thread nD τ), .dma q) (r + 1)
            ∗ (Rd (F := F) m ρ).payload ((c : Thread nD τ), .dma q) r false) -∗ WP c (k ⟨⟩) Q)
          -∗ WP c (.op (.waitDma2 sem sr dst h1 h2) k) Q) := by
  subst hq hN
  unfold Pay
  iintro ⟨#Hrec, #Hlev, Hc, ⟨⟨%W, HO⟩, HT⟩, Hat⟩ Hk
  ihave Hkn := (known_dma m ρ c sem (rnds_pos h)) $$ Hrec
  unfold known
  icases Hkn with ⟨⟨%κ, #HI⟩, -⟩
  iapply (Rounds.wp_wait_rest_token 𝒱₀ (ER (F := F)) (Rd m ρ) (c : Thread nD τ) none (κ := κ)
      (wpE_waitDma2_eq 𝒱₀ (c : Thread nD τ) none Set.univ) (Set.mem_univ _) () (O := tal (fun e => e.cell c) (dues.drop n)) (W := W) (R := r) (m := 0) (T := ∅)
      (by rw [Nat.zero_add, expect_dma m ρ c sem r h _ hA])) $$ [Hc HO Hat]
  · isplitr; · iexact HI
    isplitl [Hc]; · iexact Hc
    isplitl [HO]; · iexact HO
    isplitr; · iapply (mayWait c (.dma sem) (dues.drop n) hl); iexact Hlev
    iexact Hat
  iintro ⟨HO, Hat, Hr, Hpay⟩
  ihave Hp := (Entails.of_eq (rest_dma m ρ c sem r h)) $$ Hpay
  iapply Hk
  isplitl [HO HT]
  · isplitl [HO]
    · iexists _; iexact HO
    iexact HT
  isplitl [Hat]; · iexact Hat
  isplitl [Hr]; · iexact Hr
  iexact Hp

/-! ## The two sides of a stream -/

/-- The receiving side of stream `s` on device `c` after `r` receives: the rows kept so far and where the receive cells stand. -/
def RS (s : Fin 4) (c : Dev nD) (r : ℕ) : sProp 𝕄 :=
  iprop((bigSep (Finset.range r) fun i => iprop(kept s i c ∗ atPos (ER (F := F)) (rcvC s i c) 1 ∅ 0))
    ∗ bigSep (Finset.Ico r (hops s)) fun i => iprop(cred (tallyAt (rcvC s i c) () NS) ∗ atPos (ER (F := F)) (rcvC s i c) 0 ∅ 0))

/-- The sending side after `j` hops, each waited for. -/
def TS (s : Fin 4) (c : Dev nD) (j : ℕ) : sProp 𝕄 :=
  iprop((bigSep (Finset.range j) fun i => slotAny s i c) ∗ atPos (ER (F := F)) (sndC s c) j ∅ 0 ∗ reached (ER (F := F)) (sndC s c) j
    ∗ bigSep (Finset.Ico j (hops s)) fun i => iprop(dutyTok (ER (F := F)) (sndC s c) i false ∗ slotAny s (i + 1) (tgt s c)))

/-- The sending side with hop `j` under way. -/
def TF (s : Fin 4) (c : Dev nD) (j : ℕ) : sProp 𝕄 :=
  iprop((bigSep (Finset.range j) fun i => slotAny s i c) ∗ atPos (ER (F := F)) (sndC s c) j ∅ 0 ∗ cred (tallyAt (sndC s c) () NS)
    ∗ bigSep (Finset.Ico (j + 1) (hops s)) fun i => iprop(dutyTok (ER (F := F)) (sndC s c) i false ∗ slotAny s (i + 1) (tgt s c)))

omit [FloatOps F] in
theorem slotIs_any (s : Fin 4) (j : ℕ) (c : Dev nD) (X : Vec F S256x1024 .bf16) : slotIs (F := F) s j c X ⊢ slotAny s j c := by
  unfold slotIs slotAny owns
  iintro ⟨%f, -, H⟩
  iexists f; iexact H

omit [FloatOps F] in
/-- What hop `r` brings device `c`: the row it keeps and the rows it passes on. -/
theorem ride_split (s : Fin 4) (r : ℕ) (c : Dev nD) (h : r < hops s) :
    ride (F := F) s r (src s c) = iprop(kept s r c ∗ ride s (r + 1) c) := by
  unfold ride kept
  by_cases hs : s.val < 2
  · rw [if_pos hs, if_pos hs, if_pos hs, show hops s - r = (hops s - (r + 1)) + 1 by omega]
    show iprop(rowAny ((src s)^[r] (src s c)) (tgt s (src s c)) ∗ rowsN s (hops s - (r + 1)) ((src s)^[r] (src s c)) (tgt s (src s c))) = _
    rw [tgt_src]; rfl
  · rw [if_neg hs, if_neg hs, if_neg hs]
    exact (BI.Entails.antisymm (sep_emp (PROP := sProp 𝕄)).1 (sep_emp (PROP := sProp 𝕄)).2).symm

/-- A receive: slot `r + 1` arrives with the partial sum of the device upstream. -/
theorem recv_step (s : Fin 4) (c : Dev nD) (r n : ℕ) (h : r < hops s) (hl : ∀ e ∈ dues.drop n, lvS (.dma (rcvQ s r)) < lvS e.sem)
    {sem : DmaSem sig} (hq : sem = rcvQ s r) {sr dst : Memref sig .tc .vmem S256x1024 .bf16} (hd : dst = slot s (r + 1))
    {h1 : sr.view.WordExact} {h2 : dst.view.WordExact} :
    iprop(records (F := F) m ρ ∗ levAts L lv ∗ Pay c n ∗ RS s c r)
      ⊢ iprop(((Pay c n ∗ RS s c (r + 1) ∗ slotIs s (r + 1) c (A m ρ s r (src s c)) ∗ ride s (r + 1) c) -∗ WP c (k ⟨⟩) Q)
          -∗ WP c (.op (.waitDma2 sem sr dst h1 h2) k) Q) := by
  unfold RS
  rw [bigSep_Ico_succ_bot h, bigSep_range_succ]
  iintro ⟨#Hrec, #Hlev, HP, Hdone, ⟨Hc, Hat⟩, Hrest⟩ Hk
  iapply (wait_dma m ρ c (rcvQ s r) 0 n NS (by rw [rnds_rcv s r h]; decide) (amount_small m ρ c _ (rcv_small s r h) 0 false) hl hq
    (by rw [hd]; exact slot_credit s (r + 1))) $$ [HP Hc Hat]
  · isplitr; · iexact Hrec
    isplitr; · iexact Hlev
    isplitl [Hc]; · iexact Hc
    isplitl [HP]; · iexact HP
    iexact Hat
  iintro ⟨HP, Hat, -, Hpay⟩
  ihave Hp := (Entails.of_eq (payload_rcv m ρ c s r h 0 false)) $$ Hpay
  unfold rcvPay
  icases Hp with ⟨Hs, Hride⟩
  ihave Hr := (Entails.of_eq (ride_split s r c h)) $$ Hride
  icases Hr with ⟨Hkeep, Hride⟩
  iapply Hk
  isplitl [HP]; · iexact HP
  isplitl [Hdone Hkeep Hat Hrest]
  · isplitl [Hdone Hkeep Hat]
    · isplitl [Hkeep Hat]
      · isplitl [Hkeep] <;> iassumption
      iexact Hdone
    iexact Hrest
  isplitl [Hs] <;> iassumption

/-- The wait for hop `j`'s transfer: the slot it read is the device's again. -/
theorem sent_step (s : Fin 4) (c : Dev nD) (j n : ℕ) (h : j < hops s) (hl : ∀ e ∈ dues.drop n, lvS (.dma (sndQ s)) < lvS e.sem)
    {sem : DmaSem sig} (hq : sem = sndQ s) {sr dst : Memref sig .tc .vmem S256x1024 .bf16} (hd : dst = slot s j)
    {h1 : sr.view.WordExact} {h2 : dst.view.WordExact} :
    iprop(records (F := F) m ρ ∗ levAts L lv ∗ Pay c n ∗ TF s c j)
      ⊢ iprop(((Pay c n ∗ TS s c (j + 1)) -∗ WP c (k ⟨⟩) Q)
          -∗ WP c (.op (.waitDma2 sem sr dst h1 h2) k) Q) := by
  unfold TF TS
  rw [bigSep_range_succ]
  iintro ⟨#Hrec, #Hlev, HP, Hdone, Hat, Hc, Hrest⟩ Hk
  iapply (wait_dma m ρ c (sndQ s) j n NS (by rw [rnds_snd]; exact h) (amount_small m ρ c _ (snd_small s) j false) hl hq
    (by rw [hd]; exact slot_credit s j)) $$ [HP Hc Hat]
  · isplitr; · iexact Hrec
    isplitr; · iexact Hlev
    isplitl [Hc]; · iexact Hc
    isplitl [HP]; · iexact HP
    iexact Hat
  iintro ⟨HP, Hat, Hr, Hpay⟩
  ihave Hp := (Entails.of_eq (payload_snd m ρ c s j false)) $$ Hpay
  unfold sndPay
  ihave Hs := (slotIs_any s j c _) $$ Hp
  iapply Hk
  isplitl [HP]; · iexact HP
  isplitl [Hdone Hs]
  · isplitl [Hs] <;> iassumption
  isplitl [Hat]; · iexact Hat
  isplitl [Hr] <;> iassumption

/-- A hop: slot `j` goes downstream with the rows it carries. -/
theorem send_step (s : Fin 4) (c d : Dev nD) (j n : ℕ) (h : j < hops s) (hd : d = tgt s c) (hdue : dues.drop n = hopDue s j :: dues.drop (n + 1))
    {sr dst : Memref sig .tc .vmem S256x1024 .bf16} (hsr : sr = slot s j) (hdst : dst = slot s (j + 1))
    {sS sem : DmaSem sig} (hsS : sS = sndQ s) (hsem : sem = rcvQ s j)
    {hsc : dst.view.ref.isScScratch = false} {h1 : sr.view.WordExact} {h2 : dst.view.WordExact}
    {h3 : DmaTarget.Typed .vmem (.dma sem) (.remote (Dev.tc d : Thread nD τ) dst (.dma sS) hsc)} :
    iprop(records (F := F) m ρ ∗ Pay c n ∗ TS s c j ∗ slotIs s j c (A m ρ s j c) ∗ ride s j c)
      ⊢ iprop(((Pay c (n + 1) ∗ TF s c j) -∗ WP c (k ⟨⟩) Q)
          -∗ WP c (.op (.enqueueDma sr (.remote (Dev.tc d : Thread nD τ) dst (.dma sS) hsc) (.dma sem) h1 h2 h3) k) Q) := by
  subst hd hsr hdst hsS hsem
  unfold TF TS Pay
  rw [bigSep_Ico_succ_bot h, hdue, bigSepL_cons']
  iintro ⟨#Hrec, ⟨⟨%W, HO⟩, HtR, HT⟩, ⟨Hdone, Hat, #Hr, ⟨HtS, Hland⟩, Hrest⟩, Hs, Hride⟩ Hk
  ihave Hk1 := (known_dma m ρ c (sndQ s) (rnds_pos (r := 0) (by rw [rnds_snd]; omega))) $$ Hrec
  ihave Hk2 := (known_dma m ρ (tgt s c) (rcvQ s j) (rnds_pos (r := 0) (by rw [rnds_rcv s j h]; decide))) $$ Hrec
  unfold known slotIs slotAny owns
  icases Hk1 with ⟨⟨%κ₁, #HI₁⟩, -⟩
  icases Hk2 with ⟨⟨%κ₂, #HI₂⟩, #Hr₂⟩
  icases Hs with ⟨%f, %hf, Hs⟩
  icases Hland with ⟨%fd, Hland⟩
  iapply (Rounds.wp_send_pointsTo_with 𝒱₀ (ER (F := F)) (Rd m ρ) (c : Thread nD τ) none (κ₁ := κ₁) (κ₂ := κ₂) (r₁ := j) (r₂ := 0) (d₁ := false) (d₂ := false)
      (fs := f) (fd := fd) (F := ride s j c)
      (by rw [duties_dma m ρ c (sndQ s) j (by rw [rnds_snd]; exact h)]; exact Finset.mem_singleton_self _)
      (by rw [duties_dma m ρ (tgt s c) (rcvQ s j) 0 (by rw [rnds_rcv s j h]; decide)]; exact Finset.mem_singleton_self _)
      () () NS (show (slot s (j + 1)).view.amount (.dma (rcvQ s j)) = NS from slot_credit s (j + 1)) (amount_small m ρ c _ (snd_small s) j false) (amount_small m ρ (tgt s c) _ (rcv_small s j h) 0 false)
      (tal (fun e => e.cell c) (dues.drop (n + 1))) rfl (W := W)
      (by
        rw [payload_snd]; unfold sndPay slotIs owns
        iintro H; iexists f; isplitr; · (ipureintro; exact hf)
        iexact H)
      (by
        rw [payload_rcv m ρ (tgt s c) s j h]; unfold rcvPay slotIs owns; rw [src_tgt]
        iintro ⟨H, HF⟩
        isplitl [H]
        · iexists (slot s (j + 1)).view.write (Elt F) fd ((slot s j).view.read (Elt F) f) Finset.univ
          isplitr
          · ipureintro
            exact (View.read_write_univ _ _).trans hf
          iexact H
        iexact HF)) $$ [Hs Hland Hride HO HtR HtS]
  · isplitr; · iexact HI₁
    isplitr; · iexact HI₂
    isplitl [Hs]; · iexact Hs
    isplitl [Hland Hride]
    · isplitl [Hland] <;> iassumption
    isplitl [HO]; · iexact HO
    isplitl [HtS]; · iexact HtS
    isplitr; · iexact Hr
    isplitl [HtR]; · iexact HtR
    iexact Hr₂
  iintro ⟨Hc, HO⟩
  iapply Hk
  isplitl [HO HT]
  · isplitl [HO]
    · iexists W; iexact HO
    iexact HT
  isplitl [Hdone]; · iexact Hdone
  isplitl [Hat]; · iexact Hat
  isplitl [Hc] <;> iassumption

/-! ## The tile products -/

/-- The working copies of the operands. -/
def xbB (c : Dev nD) : Buf (Elt F) ((c : Thread nD τ).loc cc0_scratch0) := xbC m ρ c
def wbB (c : Dev nD) : Buf (Elt F) ((c : Thread nD τ).loc cc0_scratch1) := wbC m ρ c
def XW (c : Dev nD) : sProp 𝕄 :=
  iprop(((c : Thread nD τ).loc cc0_scratch0 ↦{fullShare} xbB m ρ c) ∗ ((c : Thread nD τ).loc cc0_scratch1 ↦{fullShare} wbB m ρ c))

section Tile
variable {n : ℕ} (M : Memref sig .tc .vmem (SN (n + 1)) .bf16)

theorem sl_set (j : ℕ) : (sl n M j).view.set = M.view.setOn (slR n j).set :=
  (View.set_reshape (v := M.view.slice (slR n j)) (s' := S256x1024) (squeezes_S1x256x1024_S256x1024.numel_eq)).trans (View.set_slice M.view (slR n j))
theorem sl_setOn (j : ℕ) : M.view.setOn (slR n j).toLoadRect.set ⊆ (sl n M j).view.set :=
  (sl_set M j).symm.subset
theorem sl_access (j : ℕ) : (M.access (slR n j)).setOn Finset.univ ⊆ (sl n M j).view.set := by
  exact ((View.set_slice M.view (slR n j)).trans (sl_set M j).symm).subset
theorem sl_read (j : ℕ) (f : M.view.ty.Contents (Elt F)) :
    (sl n M j).view.read (Elt F) f = shapeCast S256x1024 (M.view.readAt (Elt F) (slR n j).toLoadRect f) shapeCasts_S1x256x1024_S256x1024 :=
  Memref.read_squeeze_slice M (slR n j) (fun _ => rfl) squeezes_S1x256x1024_S256x1024 shapeCasts_S1x256x1024_S256x1024 f
theorem sl_read_write (j : ℕ) (f : M.view.ty.Contents (Elt F)) (a : Vec F S256x1024 .bf16) :
    (sl n M j).view.read (Elt F) ((M.access (slR n j)).write (Elt F) f (shapeCast S1x256x1024 a shapeCasts_S256x1024_S1x256x1024) Finset.univ) = a := by
  rw [sl_read, View.readAt_rect]
  refine (congrArg (fun v => shapeCast S256x1024 v shapeCasts_S1x256x1024_S256x1024) (View.read_write_univ (v := M.view.slice (slR n j)) f _)).trans ?_
  exact shapeCast_shapeCast _ _ _

theorem slotAny_eq (s : Fin 4) (hM : ∀ k, sl n M k = slot s k) (j : ℕ) (c : Dev nD) :
    slotAny (F := F) s j c = iprop(∃ f : Buf (Elt F) (M.view.loc (c : Thread nD τ)), M.view.loc (c : Thread nD τ) ↦[(sl n M j).view.set]{fullShare} f) := by
  unfold slotAny; rw [← hM]; rfl
theorem slotIs_eq (s : Fin 4) (hM : ∀ k, sl n M k = slot s k) (j : ℕ) (c : Dev nD) (X : Vec F S256x1024 .bf16) :
    slotIs (F := F) s j c X = iprop(∃ f : Buf (Elt F) (M.view.loc (c : Thread nD τ)), ⌜(sl n M j).view.read (Elt F) f = X⌝
      ∗ (M.view.loc (c : Thread nD τ) ↦[(sl n M j).view.set]{fullShare} f)) := by
  unfold slotIs; rw [← hM]; rfl

variable (s : Fin 4) (c : Dev nD)
  {offx : Fin 2 → ℕ} {offw : Fin 2 → ℕ} {offm : Fin 3 → ℕ}
  {inx : ∀ a, offx a + S256x256.size a ≤ S4096x256.size a} {inw : ∀ a, offw a + S256x1024.size a ≤ S256x2048.size a}
  {inm : ∀ a, offm a + S1x256x1024.size a ≤ (SN (n + 1)).size a}
  {l1 : xbM.view.LoadsAt (Rect.unit (s := S4096x256) offx S256x256.size inx).toLoadRect}
  {l2 : wbM.view.LoadsAt (Rect.unit (s := S256x2048) offw S256x1024.size inw).toLoadRect}
  {l3 l4 : M.view.LoadsAt (Rect.unit (s := SN (n + 1)) offm S1x256x1024.size inm).toLoadRect}
  {hst : (M.access (Rect.unit (s := SN (n + 1)) offm S1x256x1024.size inm)).Stores Finset.univ}
  {hmm : (Finset.univ : Finset (Rect.unit (s := SN (n + 1)) offm S1x256x1024.size inm).shape.Idx) = Finset.univ ∨ ∀ a, (Rect.unit (s := SN (n + 1)) offm S1x256x1024.size inm).stride a = 1}

/-- The tile that starts a stream. -/
theorem tile_first (hM : ∀ k, sl n M k = slot s k) (hx : offx = ![256 * (chunkN s c 0 % 16), 0]) (hw : offw = ![0, 1024 * (half s % 2)]) (hm : offm = ![min 0 n, 0, 0])
    {pay : Vec F S256x256 .bf16 → Vec F S256x1024 .bf16 → Vec F S1x256x1024 .bf16}
    (hpay : ∀ x w, pay x w = shapeCast S1x256x1024 (accZ x w) shapeCasts_S256x1024_S1x256x1024) :
    iprop(XW m ρ c ∗ slotAny s 0 c)
      ⊢ iprop(((XW m ρ c ∗ slotIs s 0 c (A m ρ s 0 c)) -∗ WP c (k ⟨⟩) Q)
          -∗ WP c (.op (.load xbM (Rect.unit (s := S4096x256) offx S256x256.size inx).toLoadRect l1) fun (x : Vec F S256x256 .bf16) =>
              .op (.load wbM (Rect.unit (s := S256x2048) offw S256x1024.size inw).toLoadRect l2) fun (w : Vec F S256x1024 .bf16) =>
              .op (.load M (Rect.unit (s := SN (n + 1)) offm S1x256x1024.size inm).toLoadRect l3) fun _ =>
              .op (.store M (Rect.unit (s := SN (n + 1)) offm S1x256x1024.size inm) (pay x w) Finset.univ hst hmm) k) Q) := by
  subst hx hw hm
  unfold XW
  rw [slotAny_eq M s hM, slotIs_eq M s hM]
  iintro ⟨⟨Hx, Hw⟩, ⟨%f, Hs⟩⟩ Hk
  iapply (wp_load 𝒱₀ (c : Thread nD τ) none Set.univ (m := xbM) (Finset.subset_univ _)) $$ Hx; iintro Hx
  iapply (wp_load 𝒱₀ (c : Thread nD τ) none Set.univ (m := wbM) (Finset.subset_univ _)) $$ Hw; iintro Hw
  iapply (wp_load 𝒱₀ (c : Thread nD τ) none Set.univ (m := M) (sl_setOn M 0)) $$ Hs; iintro Hs
  iapply (wp_store 𝒱₀ (c : Thread nD τ) none Set.univ (m := M) (r := slR n 0) (Mk := Finset.univ) (sl_access M 0)) $$ Hs; iintro Hs
  iapply Hk
  isplitl [Hx Hw]
  · isplitl [Hx] <;> iassumption
  iexists _
  isplitr
  rotate_left
  · iexact Hs
  ipureintro
  rw [hpay, sl_read_write]
  rfl

/-- The tile that extends a stream: slot `j` holds the partial sum that arrived, and then the one to send. -/
theorem tile_next (hM : ∀ k, sl n M k = slot s k) (j : ℕ) (hx : offx = ![256 * (chunkN s c (j + 1) % 16), 0]) (hw : offw = ![0, 1024 * (half s % 2)]) (hm : offm = ![min (j + 1) n, 0, 0])
    {pay : Vec F S1x256x1024 .bf16 → Vec F S256x256 .bf16 → Vec F S256x1024 .bf16 → Vec F S1x256x1024 .bf16}
    (hpay : ∀ v x w, pay v x w = shapeCast S1x256x1024 (accS (shapeCast S256x1024 v shapeCasts_S1x256x1024_S256x1024) x w) shapeCasts_S256x1024_S1x256x1024) :
    iprop(XW m ρ c ∗ slotIs s (j + 1) c (A m ρ s j (src s c)))
      ⊢ iprop(((XW m ρ c ∗ slotIs s (j + 1) c (A m ρ s (j + 1) c)) -∗ WP c (k ⟨⟩) Q)
          -∗ WP c (.op (.load M (Rect.unit (s := SN (n + 1)) offm S1x256x1024.size inm).toLoadRect l3) fun (v : Vec F S1x256x1024 .bf16) =>
              .op (.load xbM (Rect.unit (s := S4096x256) offx S256x256.size inx).toLoadRect l1) fun (x : Vec F S256x256 .bf16) =>
              .op (.load wbM (Rect.unit (s := S256x2048) offw S256x1024.size inw).toLoadRect l2) fun (w : Vec F S256x1024 .bf16) =>
              .op (.load M (Rect.unit (s := SN (n + 1)) offm S1x256x1024.size inm).toLoadRect l4) fun _ =>
              .op (.store M (Rect.unit (s := SN (n + 1)) offm S1x256x1024.size inm) (pay v x w) Finset.univ hst hmm) k) Q) := by
  subst hx hw hm
  unfold XW
  rw [slotIs_eq M s hM, slotIs_eq M s hM]
  iintro ⟨⟨Hx, Hw⟩, ⟨%f, %hf, Hs⟩⟩ Hk
  iapply (wp_load 𝒱₀ (c : Thread nD τ) none Set.univ (m := M) (sl_setOn M (j + 1))) $$ Hs; iintro Hs
  iapply (wp_load 𝒱₀ (c : Thread nD τ) none Set.univ (m := xbM) (Finset.subset_univ _)) $$ Hx; iintro Hx
  iapply (wp_load 𝒱₀ (c : Thread nD τ) none Set.univ (m := wbM) (Finset.subset_univ _)) $$ Hw; iintro Hw
  iapply (wp_load 𝒱₀ (c : Thread nD τ) none Set.univ (m := M) (sl_setOn M (j + 1))) $$ Hs; iintro Hs
  iapply (wp_store 𝒱₀ (c : Thread nD τ) none Set.univ (m := M) (r := slR n (j + 1)) (Mk := Finset.univ) (sl_access M (j + 1))) $$ Hs; iintro Hs
  iapply Hk
  isplitl [Hx Hw]
  · isplitl [Hx] <;> iassumption
  iexists _
  isplitr
  rotate_left
  · iexact Hs
  ipureintro
  rw [sl_read] at hf
  rw [hpay, hf, sl_read_write]
  rfl

/-- A whole hop after the first: the arrival, the tile added to it, the wait for the hop before, the transfer. -/
theorem hop_step (hM : ∀ k, sl n M k = slot s k) (j i : ℕ) (hj : j + 1 < hops s) (d : Dev nD)
    (hl : ∀ e ∈ dues.drop i, lvS (.dma (rcvQ s j)) < lvS e.sem) (hl' : ∀ e ∈ dues.drop i, lvS (.dma (sndQ s)) < lvS e.sem)
    (hdue : dues.drop i = hopDue s (j + 1) :: dues.drop (i + 1)) (hd : d = tgt s c)
    (hx : offx = ![256 * (chunkN s c (j + 1) % 16), 0]) (hw : offw = ![0, 1024 * (half s % 2)]) (hm : offm = ![min (j + 1) n, 0, 0])
    {pay : Vec F S1x256x1024 .bf16 → Vec F S256x256 .bf16 → Vec F S256x1024 .bf16 → Vec F S1x256x1024 .bf16}
    (hpay : ∀ v x w, pay v x w = shapeCast S1x256x1024 (accS (shapeCast S256x1024 v shapeCasts_S1x256x1024_S256x1024) x w) shapeCasts_S256x1024_S1x256x1024)
    {m0 m1 m2 m3 m4 m5 : Memref sig .tc .vmem S256x1024 .bf16} (h1 : m1 = slot s (j + 1)) (h3 : m3 = slot s j) (h4 : m4 = slot s (j + 1)) (h5 : m5 = slot s (j + 1 + 1))
    {q1 q2 q3 q4 : DmaSem sig} (hq1 : q1 = rcvQ s j) (hq2 : q2 = sndQ s) (hq3 : q3 = sndQ s) (hq4 : q4 = rcvQ s (j + 1))
    {e0 : m0.view.WordExact} {e1 : m1.view.WordExact} {e2 : m2.view.WordExact} {e3 : m3.view.WordExact} {e4 : m4.view.WordExact} {e5 : m5.view.WordExact}
    {hsc : m5.view.ref.isScScratch = false}
    {h6 : DmaTarget.Typed .vmem (.dma q4) (.remote (Dev.tc d : Thread nD τ) m5 (.dma q3) hsc)} :
    iprop(records (F := F) m ρ ∗ levAts L lv ∗ XW m ρ c ∗ Pay c i ∗ RS s c j ∗ TF s c j)
      ⊢ iprop(((XW m ρ c ∗ Pay c (i + 1) ∗ RS s c (j + 1) ∗ TF s c (j + 1)) -∗ WP c (k ⟨⟩) Q)
          -∗ WP c (.op (.waitDma2 q1 m0 m1 e0 e1) fun _ =>
              .op (.load M (Rect.unit (s := SN (n + 1)) offm S1x256x1024.size inm).toLoadRect l3) fun (v : Vec F S1x256x1024 .bf16) =>
              .op (.load xbM (Rect.unit (s := S4096x256) offx S256x256.size inx).toLoadRect l1) fun (x : Vec F S256x256 .bf16) =>
              .op (.load wbM (Rect.unit (s := S256x2048) offw S256x1024.size inw).toLoadRect l2) fun (w : Vec F S256x1024 .bf16) =>
              .op (.load M (Rect.unit (s := SN (n + 1)) offm S1x256x1024.size inm).toLoadRect l4) fun _ =>
              .op (.store M (Rect.unit (s := SN (n + 1)) offm S1x256x1024.size inm) (pay v x w) Finset.univ hst hmm) fun _ =>
              .op (.waitDma2 q2 m2 m3 e2 e3) fun _ =>
              .op (.enqueueDma m4 (.remote (Dev.tc d : Thread nD τ) m5 (.dma q3) hsc) (.dma q4) e4 e5 h6) k) Q) := by
  iintro ⟨#Hrec, #Hlev, HX, HP, HR, HT⟩ Hk
  iapply (recv_step m ρ s c j i (by omega) hl hq1 h1) $$ [HP HR]
  · isplitr; · iexact Hrec
    isplitr; · iexact Hlev
    isplitl [HP] <;> iassumption
  iintro ⟨HP, HR, Hs, Hride⟩
  iapply (tile_next m ρ M s c hM j hx hw hm hpay) $$ [HX Hs]
  · isplitl [HX] <;> iassumption
  iintro ⟨HX, Hs⟩
  iapply (sent_step m ρ s c j i (by omega) hl' hq2 h3) $$ [HP HT]
  · isplitr; · iexact Hrec
    isplitr; · iexact Hlev
    isplitl [HP] <;> iassumption
  iintro ⟨HP, HT⟩
  iapply (send_step m ρ s c d (j + 1) i hj hd hdue h4 h5 hq3 hq4) $$ [HP HT Hs Hride]
  · isplitr; · iexact Hrec
    isplitl [HP]; · iexact HP
    isplitl [HT]; · iexact HT
    isplitl [Hs] <;> iassumption
  iintro ⟨HP, HT⟩
  iapply Hk
  isplitl [HX]; · iexact HX
  isplitl [HP]; · iexact HP
  isplitl [HR] <;> iassumption

end Tile

/-! ## The finished halves -/

section Fin
variable {n₀ n₁ : ℕ} (M₀ : Memref sig .tc .vmem (SN (n₀ + 1)) .bf16) (M₁ : Memref sig .tc .vmem (SN (n₁ + 1)) .bf16)

/-- Reading a slot that holds `X`. -/
theorem slot_load {n : ℕ} (M : Memref sig .tc .vmem (SN (n + 1)) .bf16) (s : Fin 4) (hM : ∀ k, sl n M k = slot s k) (c : Dev nD) (j : ℕ) (X : Vec F S256x1024 .bf16)
    {offm : Fin 3 → ℕ} {inm : ∀ a, offm a + S1x256x1024.size a ≤ (SN (n + 1)).size a} (hm : offm = ![min j n, 0, 0])
    {l : M.view.LoadsAt (Rect.unit (s := SN (n + 1)) offm S1x256x1024.size inm).toLoadRect}
    {k : Vec F S1x256x1024 .bf16 → Prog (TpuEff nD τ sig (Elt F) Λ₀ .tc) α} :
    slotIs s j c X
      ⊢ iprop((slotIs s j c X -∗ WP c (k (shapeCast S1x256x1024 X shapeCasts_S256x1024_S1x256x1024)) Q)
          -∗ WP c (.op (.load M (Rect.unit (s := SN (n + 1)) offm S1x256x1024.size inm).toLoadRect l) k) Q) := by
  subst hm
  rw [slotIs_eq M s hM]
  iintro ⟨%f, %hf, Hs⟩ Hk
  iapply (wp_load 𝒱₀ (c : Thread nD τ) none Set.univ (m := M) (sl_setOn M j)) $$ Hs; iintro Hs
  have hv : M.view.readAt (Elt F) (slR n j).toLoadRect f = shapeCast S1x256x1024 X shapeCasts_S256x1024_S1x256x1024 := by
    rw [← hf, sl_read]; exact (shapeCast_shapeCast _ _ _).symm
  rw [hv]
  iapply Hk
  iexists f
  isplitr; · (ipureintro; exact hf)
  iexact Hs

/-- One finished half: both arrived partial sums and the device's own tile, stored in the result. -/
theorem fin_half (s₀ s₁ : Fin 4) (hM₀ : ∀ k, sl n₀ M₀ k = slot s₀ k) (hM₁ : ∀ k, sl n₁ M₁ k = slot s₁ k) (c : Dev nD) (j₀ j₁ h : ℕ)
    (a b : Vec F S256x1024 .bf16) (f : Buf (Elt F) ((c : Thread nD τ).loc cc0_stg2_0))
    {off₀ off₁ : Fin 3 → ℕ} {offx offw : Fin 2 → ℕ}
    {in₀ : ∀ a, off₀ a + S1x256x1024.size a ≤ (SN (n₀ + 1)).size a} {in₁ : ∀ a, off₁ a + S1x256x1024.size a ≤ (SN (n₁ + 1)).size a}
    {inx : ∀ a, offx a + S256x256.size a ≤ S4096x256.size a} {inw : ∀ a, offw a + S256x1024.size a ≤ S256x2048.size a}
    (h₀ : off₀ = ![min j₀ n₀, 0, 0]) (h₁ : off₁ = ![min j₁ n₁, 0, 0]) (hx : offx = ![256 * ((c.val + 32) % 16), 0]) (hw : offw = ![0, 1024 * (h % 2)])
    {l₀ : M₀.view.LoadsAt (Rect.unit (s := SN (n₀ + 1)) off₀ S1x256x1024.size in₀).toLoadRect}
    {l₁ : M₁.view.LoadsAt (Rect.unit (s := SN (n₁ + 1)) off₁ S1x256x1024.size in₁).toLoadRect}
    {l2 : xbM.view.LoadsAt (Rect.unit (s := S4096x256) offx S256x256.size inx).toLoadRect}
    {l3 : wbM.view.LoadsAt (Rect.unit (s := S256x2048) offw S256x1024.size inw).toLoadRect}
    {l4 : oM.view.LoadsAt (Rect.unit (s := S256x2048) offw S256x1024.size inw).toLoadRect}
    {hst : (oM.access (Rect.unit (s := S256x2048) offw S256x1024.size inw)).Stores Finset.univ}
    {hmm : (Finset.univ : Finset (Rect.unit (s := S256x2048) offw S256x1024.size inw).shape.Idx) = Finset.univ ∨ ∀ a, (Rect.unit (s := S256x2048) offw S256x1024.size inw).stride a = 1}
    {pay : Vec F S1x256x1024 .bf16 → Vec F S1x256x1024 .bf16 → Vec F S256x256 .bf16 → Vec F S256x1024 .bf16 → Vec F S256x1024 .f32}
    (hpay : ∀ v₀ v₁ x w, pay v₀ v₁ x w = fin2 (shapeCast S256x1024 v₀ shapeCasts_S1x256x1024_S256x1024) (shapeCast S256x1024 v₁ shapeCasts_S1x256x1024_S256x1024) x w)
    {kk : Vec F S1x256x1024 .bf16 → Vec F S1x256x1024 .bf16 → Vec F S256x256 .bf16 → Vec F S256x1024 .bf16 → PUnit → Prog (TpuEff nD τ sig (Elt F) Λ₀ .tc) α} :
    iprop(XW m ρ c ∗ slotIs s₀ j₀ c a ∗ slotIs s₁ j₁ c b ∗ ((c : Thread nD τ).loc cc0_stg2_0 ↦{fullShare} f))
      ⊢ iprop(((XW m ρ c ∗ slotIs s₀ j₀ c a ∗ slotIs s₁ j₁ c b
              ∗ ((c : Thread nD τ).loc cc0_stg2_0 ↦{fullShare} ((oM.access (Rect.unit (s := S256x2048) ![0, 1024 * (h % 2)] S256x1024.size (inbW h))).write (Elt F) f
                  (fin2 a b (xrows m ρ c (c.val + 32)) (wcols m ρ c h)) Finset.univ)))
            -∗ WP c (kk (shapeCast S1x256x1024 a shapeCasts_S256x1024_S1x256x1024) (shapeCast S1x256x1024 b shapeCasts_S256x1024_S1x256x1024)
                (xrows m ρ c (c.val + 32)) (wcols m ρ c h) ⟨⟩) Q)
          -∗ WP c (.op (.load M₀ (Rect.unit (s := SN (n₀ + 1)) off₀ S1x256x1024.size in₀).toLoadRect l₀) fun (v₀ : Vec F S1x256x1024 .bf16) =>
              .op (.load M₁ (Rect.unit (s := SN (n₁ + 1)) off₁ S1x256x1024.size in₁).toLoadRect l₁) fun (v₁ : Vec F S1x256x1024 .bf16) =>
              .op (.load xbM (Rect.unit (s := S4096x256) offx S256x256.size inx).toLoadRect l2) fun (x : Vec F S256x256 .bf16) =>
              .op (.load wbM (Rect.unit (s := S256x2048) offw S256x1024.size inw).toLoadRect l3) fun (w : Vec F S256x1024 .bf16) =>
              .op (.load oM (Rect.unit (s := S256x2048) offw S256x1024.size inw).toLoadRect l4) fun _ =>
              .op (.store oM (Rect.unit (s := S256x2048) offw S256x1024.size inw) (pay v₀ v₁ x w) Finset.univ hst hmm) (kk v₀ v₁ x w)) Q) := by
  subst hx hw
  unfold XW
  iintro ⟨⟨Hx, Hw⟩, Ha, Hb, Ho⟩ Hk
  iapply (slot_load M₀ s₀ hM₀ c j₀ a h₀) $$ Ha; iintro Ha
  iapply (slot_load M₁ s₁ hM₁ c j₁ b h₁) $$ Hb; iintro Hb
  iapply (wp_load 𝒱₀ (c : Thread nD τ) none Set.univ (m := xbM) (Finset.subset_univ _)) $$ Hx; iintro Hx
  iapply (wp_load 𝒱₀ (c : Thread nD τ) none Set.univ (m := wbM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := Rect.unit (s := S256x2048) ![0, 1024 * (h % 2)] S256x1024.size (inbW h)) (Mk := Finset.univ) (Finset.subset_univ _)) $$ Ho; iintro Ho
  rw [hpay, shapeCast_shapeCast, shapeCast_shapeCast]
  iapply Hk
  isplitl [Hx Hw]
  · isplitl [Hx] <;> iassumption
  isplitl [Ha]; · iexact Ha
  isplitl [Hb]; · iexact Hb
  iexact Ho

end Fin

end Cert.Ring

end
-- ==== Proof.Row.lean ====
/-
# The barrier, the exchange of the maxima, and the way from them to the streams
-/
module

public import proofs.«01_k».proof.Proof.Steps
public import Idealize.ShloMosaic.Lib.Ring

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 eq_ix2 idx2_lt0 idx2_lt1)

variable {F : FTy → Type} [FloatOps F]

local notation "𝕄" => MT nD τ sig Unit (Elt F) ℕ UU ℕ

variable (m : (ℓ : Loc nD τ sig) → Buf (Elt F) ℓ) (ρ : Dev nD → PrngReg)

variable {α : Type} {Q : α → sProp (MT nD τ sig Unit (Elt F) ℕ UU ℕ)} {k : PUnit → Prog (TpuEff nD τ sig (Elt F) Λ₀ .tc) α}

/-! ## The barrier -/

theorem amount_bar (c : Dev nD) (r : ℕ) (b : Bool) : (Rd (F := F) m ρ).amount (barC c) r b = 1 := rfl
theorem payload_bar (c : Dev nD) (r : ℕ) (b : Bool) : (Rd (F := F) m ρ).payload (barC c) r b = barPay c b := rfl

/-- A unit to a neighbour's barrier, with the landing slots it is to write into. -/
theorem bar_signal (c d : Dev nD) (kk : ℕ) (b : Bool) (n : ℕ) (hd : d = rot kk c)
    (hdue : dues.drop n = ⟨kk, .reg barS, 1, b⟩ :: dues.drop (n + 1)) {sem : Sem sig} (hsem : sem = barS) {k' : ℕ} (hk : 1 = k') :
    iprop(records (F := F) m ρ ∗ Pay c n ∗ barPay d b)
      ⊢ iprop((Pay c (n + 1) -∗ WP c (k ⟨⟩) Q) -∗ WP c (.op (.semSignal (d : Thread nD τ) sem k') k) Q) := by
  subst hsem hd
  unfold Pay
  rw [hdue, bigSepL_cons']
  iintro ⟨#Hrec, ⟨⟨%W, HO⟩, HtR, HT⟩, Hpay⟩ Hk
  ihave Hkn := (known_bar m ρ (rot kk c)) $$ Hrec
  unfold known
  icases Hkn with ⟨⟨%κ, #HI⟩, #Hr⟩
  iapply (Rounds.wp_signal 𝒱₀ (ER (F := F)) (Rd m ρ) (c : Thread nD τ) none (dst := (rot kk c : Thread nD τ)) (κ := κ) (r := 0)
      (d := b) (by rw [duties_bar]; exact Finset.mem_univ _) ((amount_bar m ρ (rot kk c) 0 b).trans hk) () (W := W) (tal (fun e => e.cell c) (dues.drop (n + 1))) (by subst hk; rfl))
    $$ [HO HtR Hpay]
  · isplitr; · iexact HI
    isplitl [HO]; · iexact HO
    isplitl [HtR]; · iexact HtR
    isplitl [Hpay]; · (rw [payload_bar]; iexact Hpay)
    iexact Hr
  iintro HO
  iapply Hk
  isplitl [HO]
  · iexists W; iexact HO
  iexact HT

/-- The wait for both neighbours: their landing slots come with it. -/
theorem bar_wait (c : Dev nD) {sem : Sem sig} (hsem : sem = barS) {k' : ℕ} (hk : k' = 2) :
    iprop(records (F := F) m ρ ∗ levAts L lv ∗ cred (tallyAt (barC c) () 2) ∗ Pay c 2 ∗ atPos (ER (F := F)) (barC c) 0 ∅ 0)
      ⊢ iprop(((Pay c 2 ∗ atPos (ER (F := F)) (barC c) 1 ∅ 0 ∗ (lands 1 c ∗ lands 3 c) ∗ (lands 0 c ∗ lands 2 c)) -∗ WP c (k ⟨⟩) Q)
          -∗ WP c (.op (.semWait sem k') k) Q) := by
  subst hsem hk
  unfold Pay
  iintro ⟨#Hrec, #Hlev, Hc, ⟨⟨%W, HO⟩, HT⟩, Hat⟩ Hk
  ihave Hkn := (known_bar m ρ c) $$ Hrec
  unfold known
  icases Hkn with ⟨⟨%κ, #HI⟩, -⟩
  iapply (Rounds.wp_wait_rest_token 𝒱₀ (ER (F := F)) (Rd m ρ) (c : Thread nD τ) none (κ := κ)
      (wpE_semWait_eq 𝒱₀ (c : Thread nD τ) none Set.univ) (Set.mem_univ _) () (O := tal (fun e => e.cell c) (dues.drop 2)) (W := W) (R := 0) (m := 0) (T := ∅)
      (by rw [expect_bar])) $$ [Hc HO Hat]
  · isplitr; · iexact HI
    isplitl [Hc]; · iexact Hc
    isplitl [HO]; · iexact HO
    isplitr; · iapply (mayWait c (.reg barS) (dues.drop 2) (by decide)); iexact Hlev
    iexact Hat
  iintro ⟨HO, Hat, -, Hpay⟩
  ihave Hp := (Entails.of_eq (rest_bar m ρ c)) $$ Hpay
  iapply Hk
  isplitl [HO HT]
  · isplitl [HO]
    · iexists _; iexact HO
    iexact HT
  isplitl [Hat]; · iexact Hat
  iexact Hp

/-! ## The maxima -/

/-- The sending side of the exchange after `k` copies. -/
def AS (c : Dev nD) (k : ℕ) : sProp 𝕄 :=
  iprop(rowIs m ρ c c (shRest k) ∗ (bigSep (Finset.range k) fun i => cred (tallyAt (asC i c) () NA))
    ∗ bigSep (Finset.Ico k 15) fun i => iprop(dutyTok (ER (F := F)) (asC i c) 0 false ∗ rowAny (rot (i + 1) c) c))
/-- The waits for one's own copies, and for the others' rows, after `k` of them. -/
def AW (c : Dev nD) (k : ℕ) : sProp 𝕄 :=
  iprop((bigSep (Finset.range k) fun i => iprop(rowIs m ρ c c (shOut i) ∗ atPos (ER (F := F)) (asC i c) 1 ∅ 0))
    ∗ bigSep (Finset.Ico k 15) fun i => iprop(cred (tallyAt (asC i c) () NA) ∗ atPos (ER (F := F)) (asC i c) 0 ∅ 0))
def AR (c : Dev nD) (k : ℕ) : sProp 𝕄 :=
  iprop((bigSep (Finset.range k) fun i => iprop(rowIs m ρ c (rot (15 - i) c) fullShare ∗ atPos (ER (F := F)) (arC i c) 1 ∅ 0))
    ∗ bigSep (Finset.Ico k 15) fun i => iprop(cred (tallyAt (arC i c) () NA) ∗ atPos (ER (F := F)) (arC i c) 0 ∅ 0))

/-- A row copied over another device's holds the same maximum. -/
theorem row_copy (c d : Dev nD) (fd : Buf (Elt F) ((rowM c).view.loc (d : Thread nD τ))) :
    ((rowM c).view.loc (d : Thread nD τ) ↦[(rowM c).view.set]{fullShare} ((rowM c).view.write (Elt F) fd ((rowM c).view.read (Elt F) (AMb m ρ c c)) Finset.univ) : sProp 𝕄)
      = rowIs m ρ d c fullShare := by
  unfold rowIs
  refine pointsTo_congr fun i hi => ?_
  rw [show (rowM c).view.write (Elt F) fd ((rowM c).view.read (Elt F) (AMb m ρ c c)) Finset.univ
      = ((rowM c).view.setOn Finset.univ).piecewise (AMb m ρ c c) fd from View.write_read_eq_piecewise _ _ _]
  exact Finset.piecewise_eq_of_mem (s := (rowM c).view.setOn Finset.univ) _ _ hi

theorem max_send (c d : Dev nD) (k' n : ℕ) (h : k' < 15) (hd : d = rot (k' + 1) c) (hdue : dues.drop n = maxDue k' :: dues.drop (n + 1))
    {sr dst : Memref sig .tc .vmem S1x128 .f32} (hsr : sr = rowM c) (hdst : dst = rowM c)
    {sS sem : DmaSem sig} (hsS : sS = asQ k') (hsem : sem = arQ k')
    {hsc : dst.view.ref.isScScratch = false} {h1 : sr.view.WordExact} {h2 : dst.view.WordExact}
    {h3 : DmaTarget.Typed .vmem (.dma sem) (.remote (Dev.tc d : Thread nD τ) dst (.dma sS) hsc)} :
    iprop(records (F := F) m ρ ∗ Pay c n ∗ AS m ρ c k')
      ⊢ iprop(((Pay c (n + 1) ∗ AS m ρ c (k' + 1)) -∗ WP c (k ⟨⟩) Q)
          -∗ WP c (.op (.enqueueDma sr (.remote (Dev.tc d : Thread nD τ) dst (.dma sS) hsc) (.dma sem) h1 h2 h3) k) Q) := by
  subst hd hsr hdst hsS hsem
  unfold AS Pay
  rw [bigSep_Ico_succ_bot h, hdue, bigSepL_cons', bigSep_range_succ]
  have hsplit : rowIs (F := F) m ρ c c (shRest k') ⊢ iprop(rowIs m ρ c c (shOut k') ∗ rowIs m ρ c c (shRest (k' + 1))) := by
    unfold rowIs; exact (pointsTo_share (PosShare.mem_left_op_right (shRest k'))).1
  iintro ⟨#Hrec, ⟨⟨%W, HO⟩, HtR, HT⟩, Hrow, Hcs, ⟨HtS, Hland⟩, Hrest⟩ Hk
  ihave Hk1 := (known_dma m ρ c (asQ k') (rnds_pos (r := 0) (by rw [rnds_as k' h]; decide))) $$ Hrec
  ihave Hk2 := (known_dma m ρ (rot (k' + 1) c) (arQ k') (rnds_pos (r := 0) (by rw [rnds_ar k' h]; decide))) $$ Hrec
  ihave Hrow := hsplit $$ Hrow
  icases Hrow with ⟨Hout, Hrow⟩
  unfold known rowAny
  icases Hk1 with ⟨⟨%κ₁, #HI₁⟩, #Hr₁⟩
  icases Hk2 with ⟨⟨%κ₂, #HI₂⟩, #Hr₂⟩
  icases Hland with ⟨%fd, Hland⟩
  ihave Hout := (show rowIs m ρ c c (shOut k') ⊢ ((rowM c).view.loc (c : Thread nD τ) ↦[(rowM c).view.set]{shOut k'} AMb m ρ c c : sProp 𝕄) from BI.Entails.refl _) $$ Hout
  iapply (Rounds.wp_send_pointsTo 𝒱₀ (ER (F := F)) (Rd m ρ) (c : Thread nD τ) none (κ₁ := κ₁) (κ₂ := κ₂) (r₁ := 0) (r₂ := 0) (d₁ := false) (d₂ := false)
      (fs := AMb m ρ c c) (fd := fd)
      (by rw [duties_dma m ρ c (asQ k') 0 (by rw [rnds_as k' h]; decide)]; exact Finset.mem_singleton_self _)
      (by rw [duties_dma m ρ (rot (k' + 1) c) (arQ k') 0 (by rw [rnds_ar k' h]; decide)]; exact Finset.mem_singleton_self _)
      () () NA rfl (amount_big m ρ c _ (as_big k' h) 0 false) (amount_big m ρ (rot (k' + 1) c) _ (ar_big k' h) 0 false)
      (tal (fun e => e.cell c) (dues.drop (n + 1))) rfl (W := W)
      (by rw [payload_as m ρ c k' h]; unfold asPay rowIs; exact BI.Entails.refl _)
      (by
        rw [payload_ar m ρ (rot (k' + 1) c) k' h]; unfold arPay
        rw [rot_rot, show k' + 1 + (15 - k') = 16 by omega, rot_of_dvd 16 rfl c]
        exact Entails.of_eq (row_copy m ρ c _ fd))) $$ [Hout Hland HO HtR HtS]
  · isplitr; · iexact HI₁
    isplitr; · iexact HI₂
    isplitl [Hout]; · iexact Hout
    isplitl [Hland]; · iexact Hland
    isplitl [HO]; · iexact HO
    isplitl [HtS]; · iexact HtS
    isplitr; · iexact Hr₁
    isplitl [HtR]; · iexact HtR
    iexact Hr₂
  iintro ⟨Hc, HO⟩
  iapply Hk
  isplitl [HO HT]
  · isplitl [HO]
    · iexists W; iexact HO
    iexact HT
  isplitl [Hrow]; · iexact Hrow
  isplitl [Hc Hcs]
  · isplitl [Hc] <;> iassumption
  iexact Hrest

theorem max_sent (c : Dev nD) (k' n : ℕ) (h : k' < 15) (hl : ∀ e ∈ dues.drop n, lvS (.dma (asQ k')) < lvS e.sem)
    {sem : DmaSem sig} (hq : sem = asQ k') {sr dst : Memref sig .tc .vmem S1x128 .f32} (hd : dst = rowM c)
    {h1 : sr.view.WordExact} {h2 : dst.view.WordExact} :
    iprop(records (F := F) m ρ ∗ levAts L lv ∗ Pay c n ∗ AW m ρ c k')
      ⊢ iprop(((Pay c n ∗ AW m ρ c (k' + 1)) -∗ WP c (k ⟨⟩) Q)
          -∗ WP c (.op (.waitDma2 sem sr dst h1 h2) k) Q) := by
  unfold AW
  rw [bigSep_Ico_succ_bot h, bigSep_range_succ]
  iintro ⟨#Hrec, #Hlev, HP, Hdone, ⟨Hc, Hat⟩, Hrest⟩ Hk
  iapply (wait_dma m ρ c (asQ k') 0 n NA (by rw [rnds_as k' h]; decide) (amount_big m ρ c _ (as_big k' h) 0 false) hl hq
    (by rw [hd]; exact row_credit c)) $$ [HP Hc Hat]
  · isplitr; · iexact Hrec
    isplitr; · iexact Hlev
    isplitl [Hc]; · iexact Hc
    isplitl [HP]; · iexact HP
    iexact Hat
  iintro ⟨HP, Hat, -, Hpay⟩
  ihave Hp := (Entails.of_eq (payload_as m ρ c k' h 0 false)) $$ Hpay
  unfold asPay
  iapply Hk
  isplitl [HP]; · iexact HP
  isplitl [Hdone Hp Hat]
  · isplitl [Hp Hat]
    · isplitl [Hp] <;> iassumption
    iexact Hdone
  iexact Hrest

theorem max_recv (c : Dev nD) (k' n : ℕ) (h : k' < 15) (hl : ∀ e ∈ dues.drop n, lvS (.dma (arQ k')) < lvS e.sem)
    {sem : DmaSem sig} (hq : sem = arQ k') {sr dst : Memref sig .tc .vmem S1x128 .f32} (hd : dst = rowM c)
    {h1 : sr.view.WordExact} {h2 : dst.view.WordExact} :
    iprop(records (F := F) m ρ ∗ levAts L lv ∗ Pay c n ∗ AR m ρ c k')
      ⊢ iprop(((Pay c n ∗ AR m ρ c (k' + 1)) -∗ WP c (k ⟨⟩) Q)
          -∗ WP c (.op (.waitDma2 sem sr dst h1 h2) k) Q) := by
  unfold AR
  rw [bigSep_Ico_succ_bot h, bigSep_range_succ]
  iintro ⟨#Hrec, #Hlev, HP, Hdone, ⟨Hc, Hat⟩, Hrest⟩ Hk
  iapply (wait_dma m ρ c (arQ k') 0 n NA (by rw [rnds_ar k' h]; decide) (amount_big m ρ c _ (ar_big k' h) 0 false) hl hq
    (by rw [hd]; exact row_credit c)) $$ [HP Hc Hat]
  · isplitr; · iexact Hrec
    isplitr; · iexact Hlev
    isplitl [Hc]; · iexact Hc
    isplitl [HP]; · iexact HP
    iexact Hat
  iintro ⟨HP, Hat, -, Hpay⟩
  ihave Hp := (Entails.of_eq (payload_ar m ρ c k' h 0 false)) $$ Hpay
  unfold arPay
  iapply Hk
  isplitl [HP]; · iexact HP
  isplitl [Hdone Hp Hat]
  · isplitl [Hp Hat]
    · isplitl [Hp] <;> iassumption
    iexact Hdone
  iexact Hrest

/-- The device's own row takes its maximum. -/
theorem max_store (c : Dev nD) {off : Fin 2 → ℕ} {inb : ∀ a, off a + S1x128.size a ≤ S16x128.size a} (ho : off = ![c.val, 0])
    {l : aM.view.LoadsAt (Rect.unit (s := S16x128) off S1x128.size inb).toLoadRect}
    {hst : (aM.access (Rect.unit (s := S16x128) off S1x128.size inb)).Stores Finset.univ}
    {hmm : (Finset.univ : Finset (Rect.unit (s := S16x128) off S1x128.size inb).shape.Idx) = Finset.univ ∨ ∀ a, (Rect.unit (s := S16x128) off S1x128.size inb).stride a = 1}
    {w : Vec F S1x128 .f32} (hw : ∀ x, w x = amv m ρ c) :
    rowAny (F := F) c c
      ⊢ iprop((rowIs m ρ c c fullShare -∗ WP c (k ⟨⟩) Q)
          -∗ WP c (.op (.load aM (Rect.unit (s := S16x128) off S1x128.size inb).toLoadRect l) fun _ =>
              .op (.store aM (Rect.unit (s := S16x128) off S1x128.size inb) w Finset.univ hst hmm) k) Q) := by
  obtain rfl : off = k0_off5 c := ho.trans (k0_off5_eq c).symm
  have hset : (rowM c).view.set = aM.view.setOn (Rect.unit (s := S16x128) (k0_off5 c) S1x128.size inb).set := View.set_slice aM.view _
  rw [show rowAny (F := F) c c = iprop(∃ f : Buf (Elt F) (aM.view.loc (c : Thread nD τ)), aM.view.loc (c : Thread nD τ) ↦[(rowM c).view.set]{fullShare} f) from rfl]
  iintro ⟨%f, H⟩ Hk
  iapply (wp_load 𝒱₀ (c : Thread nD τ) none Set.univ (m := aM) hset.symm.subset) $$ H; iintro H
  iapply (wp_store 𝒱₀ (c : Thread nD τ) none Set.univ (m := aM) (r := Rect.unit (s := S16x128) (k0_off5 c) S1x128.size inb) (Mk := Finset.univ)
    ((View.set_slice aM.view (Rect.unit (s := S16x128) (k0_off5 c) S1x128.size inb)).trans hset.symm).subset) $$ H; iintro H
  have e : ((aM.access (Rect.unit (s := S16x128) (k0_off5 c) S1x128.size inb)).loc (c : Thread nD τ) ↦[(rowM c).view.set]{fullShare}
        ((aM.access (Rect.unit (s := S16x128) (k0_off5 c) S1x128.size inb)).write (Elt F) f w Finset.univ) : sProp 𝕄)
      = rowIs m ρ c c fullShare := by
    unfold rowIs
    refine pointsTo_congr fun i hi => ?_
    obtain ⟨x, -, rfl⟩ := Finset.mem_map.mp hi
    refine (View.write_emb_of_mem (v := aM.access (Rect.unit (s := S16x128) (k0_off5 c) S1x128.size inb)) f w (Finset.mem_univ x)).trans ((hw x).trans ?_)
    show amv m ρ c = amv m ρ _
    congr 1
    apply Fin.ext
    have hx : (x 0).val < 1 := (x 0).isLt
    have he : ((Rect.unit (s := S16x128) (k0_off5 c) S1x128.size inb).emb x (0 : Fin 2)).val = k0_off5 c 0 + (x 0).val := by
      show k0_off5 c 0 + 1 * (x 0).val = _
      omega
    show c.val = ((Rect.unit (s := S16x128) (k0_off5 c) S1x128.size inb).emb x (0 : Fin 2)).val
    rw [he, k0_off5_eq]
    show c.val = c.val + (x 0).val
    omega
  ihave H := (Entails.of_eq e) $$ H
  iapply Hk
  iexact H

/-! ## The start of the streams -/

/-- The slots of stream `s` of device `c` that its neighbour writes into. -/
def own (s : Fin 4) (c : Dev nD) : sProp 𝕄 := bigSep (Finset.Ico 0 (hops s)) fun j => slotAny s (j + 1) c

/-- The tokens and positions with which stream `s` starts on device `c`. -/
def SS (s : Fin 4) (c : Dev nD) : sProp 𝕄 :=
  iprop(atPos (ER (F := F)) (sndC s c) 0 ∅ 0 ∗ reached (ER (F := F)) (sndC s c) 0
    ∗ bigSep (Finset.Ico 0 (hops s)) fun i => dutyTok (ER (F := F)) (sndC s c) i false)

omit [FloatOps F] in
theorem lands_src (s : Fin 4) (c : Dev nD) : lands (F := F) s (src s c) = own s c := by
  unfold lands own; rw [tgt_src]

omit [FloatOps F] in
theorem ts_start (s : Fin 4) (c : Dev nD) : iprop(SS (F := F) s c ∗ lands s c) ⊢ TS s c 0 := by
  unfold SS TS lands
  rw [bigSep_sep', Finset.range_zero, bigSep_empty]
  iintro ⟨⟨Hat, Hr, Ht⟩, Hl⟩
  isplitr; · iempintro
  isplitl [Hat]; · iexact Hat
  isplitl [Hr]; · iexact Hr
  isplitl [Ht] <;> iassumption

/-- A hop after the first, the program spelt with the slots and semaphores by name. -/
theorem hop {n : ℕ} (M : Memref sig .tc .vmem (SN (n + 1)) .bf16) (s : Fin 4) (c : Dev nD) (hM : ∀ k, sl n M k = slot s k) (j i : ℕ) (hj : j + 1 < hops s) (d : Dev nD)
    (hl : ∀ e ∈ dues.drop i, lvS (.dma (rcvQ s j)) < lvS e.sem) (hl' : ∀ e ∈ dues.drop i, lvS (.dma (sndQ s)) < lvS e.sem)
    (hdue : dues.drop i = hopDue s (j + 1) :: dues.drop (i + 1)) (hd : d = tgt s c)
    {offx offw : Fin 2 → ℕ} {offm : Fin 3 → ℕ}
    {inx : ∀ a, offx a + S256x256.size a ≤ S4096x256.size a} {inw : ∀ a, offw a + S256x1024.size a ≤ S256x2048.size a}
    {inm : ∀ a, offm a + S1x256x1024.size a ≤ (SN (n + 1)).size a}
    (hx : offx = ![256 * (chunkN s c (j + 1) % 16), 0]) (hw : offw = ![0, 1024 * (half s % 2)]) (hm : offm = ![min (j + 1) n, 0, 0])
    {l1 : xbM.view.LoadsAt (Rect.unit (s := S4096x256) offx S256x256.size inx).toLoadRect}
    {l2 : wbM.view.LoadsAt (Rect.unit (s := S256x2048) offw S256x1024.size inw).toLoadRect}
    {l3 l4 : M.view.LoadsAt (Rect.unit (s := SN (n + 1)) offm S1x256x1024.size inm).toLoadRect}
    {hst : (M.access (Rect.unit (s := SN (n + 1)) offm S1x256x1024.size inm)).Stores Finset.univ}
    {hmm : (Finset.univ : Finset (Rect.unit (s := SN (n + 1)) offm S1x256x1024.size inm).shape.Idx) = Finset.univ ∨ ∀ a, (Rect.unit (s := SN (n + 1)) offm S1x256x1024.size inm).stride a = 1}
    {pay : Vec F S1x256x1024 .bf16 → Vec F S256x256 .bf16 → Vec F S256x1024 .bf16 → Vec F S1x256x1024 .bf16}
    (hpay : ∀ v x w, pay v x w = shapeCast S1x256x1024 (accS (shapeCast S256x1024 v shapeCasts_S1x256x1024_S256x1024) x w) shapeCasts_S256x1024_S1x256x1024)
    {e0 : (slot s j).view.WordExact} {e1 : (slot s (j + 1)).view.WordExact} {e2 : (slot s (j + 1)).view.WordExact} {e3 : (slot s j).view.WordExact}
    {e4 : (slot s (j + 1)).view.WordExact} {e5 : (slot s (j + 1 + 1)).view.WordExact}
    {hsc : (slot s (j + 1 + 1)).view.ref.isScScratch = false}
    {h6 : DmaTarget.Typed .vmem (.dma (rcvQ s (j + 1))) (.remote (Dev.tc d : Thread nD τ) (slot s (j + 1 + 1)) (.dma (sndQ s)) hsc)} :
    iprop(records (F := F) m ρ ∗ levAts L lv ∗ XW m ρ c ∗ Pay c i ∗ RS s c j ∗ TF s c j)
      ⊢ iprop(((XW m ρ c ∗ Pay c (i + 1) ∗ RS s c (j + 1) ∗ TF s c (j + 1)) -∗ WP c (k ⟨⟩) Q)
          -∗ WP c (.op (.waitDma2 (rcvQ s j) (slot s j) (slot s (j + 1)) e0 e1) fun _ =>
              .op (.load M (Rect.unit (s := SN (n + 1)) offm S1x256x1024.size inm).toLoadRect l3) fun (v : Vec F S1x256x1024 .bf16) =>
              .op (.load xbM (Rect.unit (s := S4096x256) offx S256x256.size inx).toLoadRect l1) fun (x : Vec F S256x256 .bf16) =>
              .op (.load wbM (Rect.unit (s := S256x2048) offw S256x1024.size inw).toLoadRect l2) fun (w : Vec F S256x1024 .bf16) =>
              .op (.load M (Rect.unit (s := SN (n + 1)) offm S1x256x1024.size inm).toLoadRect l4) fun _ =>
              .op (.store M (Rect.unit (s := SN (n + 1)) offm S1x256x1024.size inm) (pay v x w) Finset.univ hst hmm) fun _ =>
              .op (.waitDma2 (sndQ s) (slot s (j + 1)) (slot s j) e2 e3) fun _ =>
              .op (.enqueueDma (slot s (j + 1)) (.remote (Dev.tc d : Thread nD τ) (slot s (j + 1 + 1)) (.dma (sndQ s)) hsc) (.dma (rcvQ s (j + 1))) e4 e5 h6) k) Q) :=
  hop_step m ρ M s c hM j i hj d hl hl' hdue hd hx hw hm hpay rfl rfl rfl rfl rfl rfl rfl rfl

/-! ## The buffers at their own types -/

def xstgB (c : Dev nD) : Buf (Elt F) ((c : Thread nD τ).loc cc0_stg0_0) := xstg m ρ c
def wstgB (c : Dev nD) : Buf (Elt F) ((c : Thread nD τ).loc cc0_stg1_0) := wstg m ρ c
def outB (c : Dev nD) : Buf (Elt F) ((c : Thread nD τ).loc cc0_stg2_0) := outAt m ρ c
def amB (c : Dev nD) : Buf (Elt F) ((c : Thread nD τ).loc cc0_scratch6) := AM m ρ

/-- The exchange when it is over: the whole buffer of the maxima, and where its semaphores stand. -/
def AM₁ (c : Dev nD) : sProp 𝕄 :=
  iprop(((c : Thread nD τ).loc cc0_scratch6 ↦{fullShare} amB m ρ c)
    ∗ (bigSep (Finset.range 15) fun i => atPos (ER (F := F)) (asC i c) 1 ∅ 0) ∗ bigSep (Finset.range 15) fun i => atPos (ER (F := F)) (arC i c) 1 ∅ 0)

/-! ## Rows in order -/

section Order
variable (Φ : ℕ → sProp (MT nD τ sig Unit (Elt F) ℕ UU ℕ))

omit [FloatOps F] in
theorem sep_reflect (n : ℕ) (h : n ≤ 15) : bigSep (Finset.range n) (fun j => Φ (14 - j)) = bigSep (Finset.Ico (15 - n) 15) Φ := by
  induction n with
  | zero => rw [Finset.range_zero, Nat.sub_zero, Finset.Ico_self]; rfl
  | succ n ih =>
    rw [bigSep_range_succ, ih (by omega), bigSep_Ico_succ_bot (a := 15 - (n + 1)) (by omega), show 15 - (n + 1) = 14 - n by omega, show 14 - n + 1 = 15 - n by omega]

omit [FloatOps F] in
theorem sep_append (n : ℕ) (h : n ≤ 15) : iprop(bigSep (Finset.range n) Φ ∗ bigSep (Finset.Ico n 15) Φ) ⊢ bigSep (Finset.Ico 0 15) Φ := by
  induction n with
  | zero =>
    iintro ⟨-, H⟩; iexact H
  | succ n ih =>
    refine BI.Entails.trans ?_ (ih (by omega))
    rw [bigSep_range_succ, bigSep_Ico_succ_bot (a := n) (by omega)]
    show (_ : sProp 𝕄) ⊢ _
    iintro ⟨⟨H, H1⟩, H2⟩
    isplitl [H1]; · iexact H1
    isplitl [H] <;> iassumption

omit [FloatOps F] in
theorem sep_head (n : ℕ) : bigSep (Finset.range (n + 1)) Φ = iprop(Φ 0 ∗ bigSep (Finset.range n) fun i => Φ (i + 1)) := by
  induction n with
  | zero => rw [bigSep_range_succ]; rfl
  | succ n ih =>
    rw [bigSep_range_succ, ih, bigSep_range_succ]
    refine BI.Entails.antisymm ?_ ?_
    · show (_ : sProp 𝕄) ⊢ _
      iintro ⟨H1, H0, H2⟩
      isplitl [H0]; · iexact H0
      isplitl [H1] <;> iassumption
    · show (_ : sProp 𝕄) ⊢ _
      iintro ⟨H0, H1, H2⟩
      isplitl [H1]; · iexact H1
      isplitl [H0] <;> iassumption

end Order

omit [FloatOps F] in
theorem src_iter (s : Fin 4) (n : ℕ) (c : Dev nD) : (src s)^[n] c = rot (n * (16 - step s)) c := by
  induction n with
  | zero => exact (rot_of_dvd _ (by rw [Nat.zero_mul]) c).symm
  | succ n ih =>
    rw [Function.iterate_succ_apply', ih]; unfold src
    rw [rot_rot, Nat.succ_mul]

omit [FloatOps F] in
theorem rot_mod {a b : ℕ} (h : a % 16 = b % 16) (c : Dev nD) : rot a c = rot b c := by
  apply Fin.ext; show (c.val + a) % 16 = (c.val + b) % 16; omega

/-- The exchange starts once the streams have brought the fifteen rows it writes into. -/
theorem as_start (c : Dev nD) :
    iprop(rowIs m ρ c c fullShare ∗ (bigSep (Finset.Ico 0 15) fun i => dutyTok (ER (F := F)) (asC i c) 0 false)
        ∗ (bigSep (Finset.range 8) fun j => kept 0 j c) ∗ (bigSep (Finset.range 7) fun j => kept 1 j c))
      ⊢ AS m ρ c 0 := by
  have h0 : (bigSep (Finset.range 8) fun j => kept (F := F) 0 j c) = bigSep (Finset.Ico 7 15) fun i => rowAny (rot (i + 1) c) c := by
    rw [← sep_reflect (fun i => rowAny (rot (i + 1) c) c) 8 (by decide)]
    refine bigSep_congr fun j hj => ?_
    have hj := Finset.mem_range.mp hj
    unfold kept
    rw [if_pos (by decide), src_iter, rot_mod (b := 14 - j + 1)]
    show (j + 1) * 15 % 16 = _
    omega
  have h1 : (bigSep (Finset.range 7) fun j => kept (F := F) 1 j c) = bigSep (Finset.range 7) fun i => rowAny (rot (i + 1) c) c := by
    refine bigSep_congr fun j hj => ?_
    unfold kept
    rw [if_pos (by decide), src_iter, rot_mod (b := j + 1)]
    show (j + 1) * 1 % 16 = _
    omega
  unfold AS
  rw [h0, h1, bigSep_sep']
  iintro ⟨Hrow, Ht, H0, H1⟩
  ihave H := (sep_append (fun i => rowAny (F := F) (rot (i + 1) c) c) 7 (by decide)) $$ [H0 H1]
  · isplitl [H1] <;> iassumption
  isplitl [Hrow]; · iexact Hrow
  isplitr; · rw [Finset.range_zero, bigSep_empty]; iempintro
  isplitl [Ht] <;> iassumption

theorem aw_start (c : Dev nD) :
    iprop(AS m ρ c 15 ∗ bigSep (Finset.Ico 0 15) fun i => atPos (ER (F := F)) (asC i c) 0 ∅ 0) ⊢ iprop(rowIs m ρ c c (shRest 15) ∗ AW m ρ c 0) := by
  unfold AS AW
  simp only [bigSep_sep', ← Finset.range_eq_Ico]
  iintro ⟨⟨Hrow, Hc, -⟩, Hat⟩
  isplitl [Hrow]; · iexact Hrow
  isplitr; · rw [Finset.range_zero, bigSep_empty, bigSep_empty]; isplitr <;> iempintro
  isplitl [Hc] <;> iassumption

theorem share_join (c : Dev nD) (n : ℕ) :
    iprop(rowIs m ρ c c (shRest n) ∗ bigSep (Finset.range n) fun i => rowIs m ρ c c (shOut i)) ⊢ rowIs (F := F) m ρ c c fullShare := by
  induction n with
  | zero => iintro ⟨H, -⟩; iexact H
  | succ n ih =>
    refine BI.Entails.trans ?_ ih
    rw [bigSep_range_succ]
    show (_ : sProp 𝕄) ⊢ _
    iintro ⟨H, H1, H2⟩
    isplitl [H H1]
    · have : iprop(rowIs m ρ c c (shOut n) ∗ rowIs m ρ c c (shRest (n + 1))) ⊢ rowIs (F := F) m ρ c c (shRest n) := by
        unfold rowIs; exact (pointsTo_share (PosShare.mem_left_op_right (shRest n))).2
      iapply this
      isplitl [H1] <;> iassumption
    iexact H2

omit [FloatOps F] in
theorem mem_row (r : Dev nD) (i : S16x128.Idx) : i ∈ (rowM r).view.set ↔ (i 0).val = r.val := by
  have key : ∀ x : S1x128.Idx, ∀ a : Fin 2, ((rowM r).view.emb x a : ℕ) = k0_off5 r a + 1 * (x a).val := fun x a => rfl
  constructor
  · intro hi
    obtain ⟨x, -, rfl⟩ := Finset.mem_map.mp hi
    refine (key x 0).trans ?_
    rw [k0_off5_eq]
    have h0 : (x 0).val < 1 := (x 0).isLt
    show r.val + 1 * (x 0).val = r.val
    omega
  · intro h
    refine Finset.mem_map.mpr ⟨ix2 (⟨0, by decide⟩ : Fin 1) (i 1), Finset.mem_univ _, ?_⟩
    funext a
    apply Fin.ext
    refine (key _ a).trans ?_
    rw [k0_off5_eq]
    match a with
    | 0 => exact h.symm
    | 1 => show 0 + 1 * (i 1).val = (i 1).val; omega

/-- A buffer of the maxima is its sixteen rows, counted from the device's own. -/
theorem rows_split (c : Dev nD) (f : Buf (Elt F) ((c : Thread nD τ).loc cc0_scratch6)) :
    ((c : Thread nD τ).loc cc0_scratch6 ↦{fullShare} f : sProp 𝕄)
      = iprop(((rowM c).view.loc (c : Thread nD τ) ↦[(rowM c).view.set]{fullShare} f)
          ∗ bigSep (Finset.range 15) fun i => ((rowM (rot (i + 1) c)).view.loc (c : Thread nD τ) ↦[(rowM (rot (i + 1) c)).view.set]{fullShare} f)) := by
  have h := Ring.pointsTo_blocks (Val := Elt F) (Ix := Unit) (Name := ℕ) (U := UU) (Lvl := ℕ) (ℓ := (c : Thread nD τ).loc cc0_scratch6) (fun r : Dev nD => (rowM r).view.set)
    (fun b b' hb => Finset.disjoint_left.mpr fun i h1 h2 => hb (Fin.ext (((mem_row b i).mp h1).symm.trans ((mem_row b' i).mp h2))))
    (Finset.eq_univ_iff_forall.mpr fun i => Finset.mem_biUnion.mpr ⟨(show Dev nD from i 0), Finset.mem_univ _, (mem_row _ i).mpr rfl⟩) (q := fullShare) f
  rw [h]
  have e : (bigSep Finset.univ fun r : Dev nD => ((c : Thread nD τ).loc cc0_scratch6 ↦[(rowM r).view.set]{fullShare} f : sProp 𝕄))
      = bigSep (Finset.range 16) fun i => ((c : Thread nD τ).loc cc0_scratch6 ↦[(rowM (rot i c)).view.set]{fullShare} f) := by
    rw [bigSep_univ_equiv (rotE c.val)]
    refine Ring.bigSep_fin_eq_range 16 _ _ fun t h => ?_
    have : rot t c = rotE c.val (⟨t, h⟩ : Dev nD) := Fin.ext (by show (c.val + t) % 16 = (t + c.val) % 16; rw [Nat.add_comm])
    rw [this]
  rw [e, sep_head _ 15, rot_of_dvd 0 rfl c]
  rfl

/-- Once every wait is done the buffer of the maxima is whole again and holds them all. -/
theorem am_join (c : Dev nD) : iprop(rowIs m ρ c c (shRest 15) ∗ AW m ρ c 15 ∗ AR m ρ c 15) ⊢ AM₁ m ρ c := by
  have hr : (bigSep (Finset.range 15) fun i => rowIs (F := F) m ρ c (rot (15 - i) c) fullShare)
      = bigSep (Finset.range 15) fun i => rowIs m ρ c (rot (i + 1) c) fullShare := by
    rw [Finset.range_eq_Ico, ← sep_reflect (fun i => rowIs m ρ c (rot (i + 1) c) fullShare) 15 (by decide), ← Finset.range_eq_Ico]
    refine bigSep_congr fun j hj => ?_
    have hj := Finset.mem_range.mp hj
    rw [show 14 - j + 1 = 15 - j by omega]
  unfold AW AR AM₁
  rw [show ((c : Thread nD τ).loc cc0_scratch6 ↦{fullShare} amB m ρ c : sProp 𝕄)
    = iprop(rowIs m ρ c c fullShare ∗ bigSep (Finset.range 15) fun i => rowIs m ρ c (rot (i + 1) c) fullShare) from rows_split c (amB m ρ c)]
  simp only [bigSep_sep', hr]
  iintro ⟨Hrow, ⟨⟨Hsh, Hat⟩, -⟩, ⟨Hrows, Har⟩, -⟩
  ihave Hrow := (share_join m ρ c 15) $$ [$Hrow $Hsh]
  isplitl [Hrow Hrows]
  · isplitl [Hrow]
    · iexact Hrow
    iexact Hrows
  isplitl [Hat] <;> iassumption

/-- A stream whose arrivals are all in: the rows it brought, and its receive cells done with. -/
def RP (s : Fin 4) (c : Dev nD) : sProp 𝕄 := bigSep (Finset.range (hops s)) fun i => atPos (ER (F := F)) (rcvC s i c) 1 ∅ 0
omit [FloatOps F] in
theorem rs_done (s : Fin 4) (c : Dev nD) : RS (F := F) s c (hops s) ⊢ iprop((bigSep (Finset.range (hops s)) fun j => kept s j c) ∗ RP s c) := by
  unfold RS RP
  rw [bigSep_sep']
  iintro ⟨H, -⟩
  iexact H

/-- Both halves written side by side. -/
theorem out_halves (c : Dev nD) (f : Buf (Elt F) (oM.view.loc (c : Thread nD τ))) :
    (oM.access (Rect.unit (s := S256x2048) ![0, 1024 * (1 % 2)] S256x1024.size (inbW 1))).write (Elt F)
      ((oM.access (Rect.unit (s := S256x2048) ![0, 1024 * (0 % 2)] S256x1024.size (inbW 0))).write (Elt F) f (yL m ρ c) Finset.univ) (yR m ρ c) Finset.univ
      = yF m ρ c := by
  funext i
  have key : ∀ (h : ℕ) (x : S256x1024.Idx) (a : Fin 2), ((oM.access (Rect.unit (s := S256x2048) ![0, 1024 * (h % 2)] S256x1024.size (inbW h))).emb x a : ℕ)
      = (![0, 1024 * (h % 2)] : Fin 2 → ℕ) a + 1 * (x a).val := fun h x a => rfl
  have hi0 : (i (0 : Fin 2)).val < 256 := (i 0).isLt
  have hi1 : (i (1 : Fin 2)).val < 2048 := (i 1).isLt
  by_cases h : (i (1 : Fin 2)).val < 1024
  · have hn : i ∉ (oM.access (Rect.unit (s := S256x2048) ![0, 1024 * (1 % 2)] S256x1024.size (inbW 1))).setOn Finset.univ := by
      intro hm
      obtain ⟨x, -, hx⟩ := Finset.mem_map.mp hm
      have := key 1 x 1
      rw [hx] at this
      have h2 : (i (1 : Fin 2)).val = 1024 + 1 * (x 1).val := this
      omega
    rw [View.write_of_not_mem _ _ _ hn]
    have hx : (oM.access (Rect.unit (s := S256x2048) ![0, 1024 * (0 % 2)] S256x1024.size (inbW 0))).emb (ix2 (i 0) ⟨(i 1).val, h⟩ : S256x1024.Idx) = i := by
      funext a
      apply Fin.ext
      refine (key 0 _ a).trans ?_
      match a with
      | 0 => show 0 + 1 * (i (0 : Fin 2)).val = (i (0 : Fin 2)).val; omega
      | 1 => show 0 + 1 * (i (1 : Fin 2)).val = (i (1 : Fin 2)).val; omega
    have e := View.write_emb_of_mem (v := oM.access (Rect.unit (s := S256x2048) ![0, 1024 * (0 % 2)] S256x1024.size (inbW 0))) f (yL m ρ c)
      (Finset.mem_univ (ix2 (i 0) ⟨(i 1).val, h⟩ : S256x1024.Idx))
    rw [hx] at e
    refine e.trans ?_
    unfold yF
    rw [dif_pos h]
    rfl
  · have hx : (oM.access (Rect.unit (s := S256x2048) ![0, 1024 * (1 % 2)] S256x1024.size (inbW 1))).emb (ix2 (i 0) ⟨(i 1).val - 1024, by omega⟩ : S256x1024.Idx) = i := by
      funext a
      apply Fin.ext
      refine (key 1 _ a).trans ?_
      match a with
      | 0 => show 0 + 1 * (i (0 : Fin 2)).val = (i (0 : Fin 2)).val; omega
      | 1 => show 1024 + 1 * ((i (1 : Fin 2)).val - 1024) = (i (1 : Fin 2)).val; omega
    have e := View.write_emb_of_mem (v := oM.access (Rect.unit (s := S256x2048) ![0, 1024 * (1 % 2)] S256x1024.size (inbW 1)))
      ((oM.access (Rect.unit (s := S256x2048) ![0, 1024 * (0 % 2)] S256x1024.size (inbW 0))).write (Elt F) f (yL m ρ c) Finset.univ) (yR m ρ c)
      (Finset.mem_univ (ix2 (i 0) ⟨(i 1).val - 1024, by omega⟩ : S256x1024.Idx))
    rw [hx] at e
    refine e.trans ?_
    unfold yF
    rw [dif_neg h]
    rfl

def yB (c : Dev nD) : Buf (Elt F) ((c : Thread nD τ).loc cc0_stg2_0) := yF m ρ c
theorem out_whole (c : Dev nD) (f : Buf (Elt F) ((c : Thread nD τ).loc cc0_stg2_0)) :
    ((c : Thread nD τ).loc cc0_stg2_0 ↦{fullShare} ((oM.access (Rect.unit (s := S256x2048) ![0, 1024 * (1 % 2)] S256x1024.size (inbW 1))).write (Elt F)
      ((oM.access (Rect.unit (s := S256x2048) ![0, 1024 * (0 % 2)] S256x1024.size (inbW 0))).write (Elt F) f
        (fin2 (A m ρ 0 7 (src 0 c)) (A m ρ 1 6 (src 1 c)) (xrows m ρ c (c.val + 32)) (wcols m ρ c 0)) Finset.univ)
      (fin2 (A m ρ 2 7 (src 2 c)) (A m ρ 3 6 (src 3 c)) (xrows m ρ c (c.val + 32)) (wcols m ρ c 1)) Finset.univ) : sProp 𝕄)
      ⊢ ((c : Thread nD τ).loc cc0_stg2_0 ↦{fullShare} yB m ρ c) := by
  have h := out_halves m ρ c f
  unfold yL yR at h
  rw [h]
  exact Entails.refl _

/-- The row the kernel writes is its largest magnitude everywhere. -/
theorem pay_max (c : Dev nD) (x : S1x128.Idx) :
    k0_pay50 (k0_pay48 (shapeCast S1x256x1024 (A m ρ 0 7 (src 0 c)) shapeCasts_S256x1024_S1x256x1024) (shapeCast S1x256x1024 (A m ρ 1 6 (src 1 c)) shapeCasts_S256x1024_S1x256x1024)
        (xrows m ρ c (c.val + 32)) (wcols m ρ c 0))
      (shapeCast S1x256x1024 (A m ρ 2 7 (src 2 c)) shapeCasts_S256x1024_S1x256x1024) (shapeCast S1x256x1024 (A m ρ 3 6 (src 3 c)) shapeCasts_S256x1024_S1x256x1024)
      (xrows m ρ c (c.val + 32)) (wcols m ρ c 1) x = amv m ρ c := by
  have e : ∀ a b x w, k0_pay47 (shapeCast S1x256x1024 a shapeCasts_S256x1024_S1x256x1024) (shapeCast S1x256x1024 b shapeCasts_S256x1024_S1x256x1024) x w
      = fin2 (F := F) a b x w := fun a b x w => by
    unfold k0_pay47 fin2
    rw [shapeCast_shapeCast, shapeCast_shapeCast]
    rfl
  have e' : ∀ a b x w, k0_pay49 (shapeCast S1x256x1024 a shapeCasts_S256x1024_S1x256x1024) (shapeCast S1x256x1024 b shapeCasts_S256x1024_S1x256x1024) x w
      = fin2 (F := F) a b x w := e
  unfold k0_pay50 k0_pay48
  rw [e, e']
  rw [shapeCast_self]
  rfl

end Cert.Ring

end
-- ==== Proof.Body.lean ====
/-
# The body of the kernel, run once at a symbolic device
-/
module

public import proofs.«01_k».proof.Proof.Row

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 eq_ix2 idx2_lt0 idx2_lt1)

variable {F : FTy → Type} [FloatOps F]

local notation "𝕄" => MT nD τ sig Unit (Elt F) ℕ UU ℕ

variable (m : (ℓ : Loc nD τ sig) → Buf (Elt F) ℓ) (ρ : Dev nD → PrngReg)

/-- What the body starts from: the standing facts, the duties and positions, and every buffer. -/
def bodyIn (c : Dev nD) : sProp 𝕄 :=
  iprop(records (F := F) m ρ ∗ levAts L lv ∗ Pay c 0 ∗ cred (tallyAt (barC c) () 2) ∗ atPos (ER (F := F)) (barC c) 0 ∅ 0
    ∗ (RS 0 c 0 ∗ RS 1 c 0 ∗ RS 2 c 0 ∗ RS 3 c 0) ∗ (SS 0 c ∗ SS 1 c ∗ SS 2 c ∗ SS 3 c)
    ∗ (slotAny 0 0 c ∗ slotAny 1 0 c ∗ slotAny 2 0 c ∗ slotAny 3 0 c) ∗ (own 0 c ∗ own 1 c ∗ own 2 c ∗ own 3 c)
    ∗ (rowAny c c ∗ ride 0 0 c ∗ ride 1 0 c)
    ∗ (bigSep (Finset.Ico 0 15) fun i => dutyTok (ER (F := F)) (asC i c) 0 false) ∗ (bigSep (Finset.Ico 0 15) fun i => atPos (ER (F := F)) (asC i c) 0 ∅ 0) ∗ AR m ρ c 0
    ∗ (∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ ((c : Thread nD τ).loc cc0_stg0_0 ↦{fullShare} xstgB m ρ c) ∗ ((c : Thread nD τ).loc cc0_stg1_0 ↦{fullShare} wstgB m ρ c)
    ∗ (∃ f : Buf (Elt F) ((c : Thread nD τ).loc cc0_stg2_0), (c : Thread nD τ).loc cc0_stg2_0 ↦{fullShare} f))

/-- What it ends with: every duty paid, every wait done, the operands as they were and the result. -/
def bodyOut (c : Dev nD) : sProp 𝕄 :=
  iprop(Pay (F := F) c 47 ∗ atPos (ER (F := F)) (barC c) 1 ∅ 0
    ∗ (RP 0 c ∗ RP 1 c ∗ RP 2 c ∗ RP 3 c) ∗ (TS 0 c 8 ∗ TS 1 c 7 ∗ TS 2 c 8 ∗ TS 3 c 7)
    ∗ (slotAny 0 8 c ∗ slotAny 1 7 c ∗ slotAny 2 8 c ∗ slotAny 3 7 c)
    ∗ AM₁ m ρ c ∗ XW m ρ c
    ∗ ((c : Thread nD τ).loc cc0_stg0_0 ↦{fullShare} xstgB m ρ c) ∗ ((c : Thread nD τ).loc cc0_stg1_0 ↦{fullShare} wstgB m ρ c)
    ∗ ((c : Thread nD τ).loc cc0_stg2_0 ↦{fullShare} outB m ρ c))

theorem hz2 : (![0, 0] : Fin 2 → Nat) = fun _ => 0 := funext fun a => by fin_cases a <;> rfl

theorem xw_intro (c : Dev nD) (fx : Buf (Elt F) (xbM.view.loc (c : Thread nD τ))) (fw : Buf (Elt F) (wbM.view.loc (c : Thread nD τ))) :
    iprop((xbM.view.loc (c : Thread nD τ) ↦{fullShare} ((xbM.access (Rect.unit (s := S4096x256) ![0, 0] S4096x256.size inb_S4096x256_S4096x256_0_0)).write (Elt F) fx
          (k0_pay2 (xM.view.readAt (Elt F) (Rect.unit (s := S4096x256) ![0, 0] S4096x256.size inb_S4096x256_S4096x256_0_0).toLoadRect (xstgB m ρ c))) Finset.univ))
        ∗ (wbM.view.loc (c : Thread nD τ) ↦{fullShare} ((wbM.access (Rect.unit (s := S256x2048) ![0, 0] S256x2048.size inb_S256x2048_S256x2048_0_0)).write (Elt F) fw
          (k0_pay3 (wM.view.readAt (Elt F) (Rect.unit (s := S256x2048) ![0, 0] S256x2048.size inb_S256x2048_S256x2048_0_0).toLoadRect (wstgB m ρ c))) Finset.univ)))
      ⊢ XW m ρ c := by
  have e1 : xM.view.readAt (Elt F) (Rect.unit (s := S4096x256) ![0, 0] S4096x256.size inb_S4096x256_S4096x256_0_0).toLoadRect (xstgB m ρ c) = xstg m ρ c :=
    Memref.readAt_unit_zero (Elt F) cc0_stg0_0 hz2 _ _
  have e2 : wM.view.readAt (Elt F) (Rect.unit (s := S256x2048) ![0, 0] S256x2048.size inb_S256x2048_S256x2048_0_0).toLoadRect (wstgB m ρ c) = wstg m ρ c :=
    Memref.readAt_unit_zero (Elt F) cc0_stg1_0 hz2 _ _
  rw [e1, e2]
  have e3 : (xbM.access (Rect.unit (s := S4096x256) ![0, 0] S4096x256.size inb_S4096x256_S4096x256_0_0)).write (Elt F) fx (k0_pay2 (xstg m ρ c)) Finset.univ = xbB m ρ c :=
    Memref.write_access_unit_zero_univ (Elt F) cc0_scratch0 hz2 _ fx _
  have e4 : (wbM.access (Rect.unit (s := S256x2048) ![0, 0] S256x2048.size inb_S256x2048_S256x2048_0_0)).write (Elt F) fw (k0_pay3 (wstg m ρ c)) Finset.univ = wbB m ρ c :=
    Memref.write_access_unit_zero_univ (Elt F) cc0_scratch1 hz2 _ fw _
  rw [e3, e4]
  exact BI.Entails.refl _

omit [FloatOps F] in
theorem ride_none (s : Fin 4) (j : ℕ) (c : Dev nD) (h : ¬ s.val < 2) : ride (F := F) s j c = iprop(emp) := if_neg h

abbrev m5 : Memref sig .tc .vmem (SN 9) .bf16 := Memref.whole cc0_scratch2
abbrev m6 : Memref sig .tc .vmem (SN 9) .bf16 := Memref.whole cc0_scratch3
abbrev m7 : Memref sig .tc .vmem (SN 8) .bf16 := Memref.whole cc0_scratch4
abbrev m8 : Memref sig .tc .vmem (SN 8) .bf16 := Memref.whole cc0_scratch5

theorem out_done (c : Dev nD) :
    ((oM.view.loc (c : Thread nD τ) ↦{fullShare} ((oM.access (Rect.unit (s := S256x2048) ![0, 0] S256x2048.size inb_S256x2048_S256x2048_0_0)).write (Elt F) (yB m ρ c)
        (k0_pay1 (aM.view.readAt (Elt F) (Rect.unit (s := S16x128) ![0, 0] S16x128.size inb_S16x128_S16x128_0_0).toLoadRect (amB m ρ c))
          (oM.view.readAt (Elt F) (Rect.unit (s := S256x2048) ![0, 0] S256x2048.size inb_S256x2048_S256x2048_0_0).toLoadRect (yB m ρ c))) Finset.univ)) : sProp 𝕄)
      ⊢ ((c : Thread nD τ).loc cc0_stg2_0 ↦{fullShare} outB m ρ c) := by
  have e1 : aM.view.readAt (Elt F) (Rect.unit (s := S16x128) ![0, 0] S16x128.size inb_S16x128_S16x128_0_0).toLoadRect (amB m ρ c) = AM m ρ :=
    Memref.readAt_unit_zero (Elt F) cc0_scratch6 hz2 _ _
  have e2 : oM.view.readAt (Elt F) (Rect.unit (s := S256x2048) ![0, 0] S256x2048.size inb_S256x2048_S256x2048_0_0).toLoadRect (yB m ρ c) = yF m ρ c :=
    Memref.readAt_unit_zero (Elt F) cc0_stg2_0 hz2 _ _
  rw [e1, e2]
  have e3 : (oM.access (Rect.unit (s := S256x2048) ![0, 0] S256x2048.size inb_S256x2048_S256x2048_0_0)).write (Elt F) (yB m ρ c) (k0_pay1 (AM m ρ) (yF m ρ c)) Finset.univ = outB m ρ c :=
    Memref.write_access_unit_zero_univ (Elt F) cc0_stg2_0 hz2 _ _ _
  rw [e3]

set_option maxHeartbeats 4000000 in
theorem sound_body (c : Dev nD) (Kt : PUnit → sProp 𝕄) :
    iprop(bodyIn m ρ c ∗ (bodyOut m ρ c -∗ |={Set.univ}=> Kt ⟨⟩)) ⊢ WP c (cc0_body xM (Memref.isWhole_whole _) wM (Memref.isWhole_whole _) oM (Memref.isWhole_whole _) xbM (Memref.isWhole_whole _) wbM (Memref.isWhole_whole _)
    m5 (Memref.isWhole_whole _) m6 (Memref.isWhole_whole _) m7 (Memref.isWhole_whole _) m8 (Memref.isWhole_whole _) aM (Memref.isWhole_whole _)
    cc0_scratch7 cc0_scratch8 cc0_scratch9 cc0_scratch10 cc0_scratch11 cc0_scratch12 cc0_scratch13 cc0_scratch14 cc0_scratch15 cc0_scratch16) Kt := by
  unfold bodyIn
  iintro ⟨⟨#Hrec, #Hlev, HP, Hcb, Hatb, ⟨HR0, HR1, HR2, HR3⟩, ⟨HS0, HS1, HS2, HS3⟩, ⟨Hs0, Hs1, Hs2, Hs3⟩, ⟨Ho0, Ho1, Ho2, Ho3⟩, ⟨Hrow, Hr0, Hr1⟩,
    Has, Haw, HAR, ⟨%fx, Hxb⟩, ⟨%fw, Hwb⟩, Hx, Hw, ⟨%fo, Ho⟩⟩, Hk⟩
  simp only [cc0_body_eq_skeleton]
  unfold cc0_body_skel
  simp only [k0_part54_eq_skeleton]
  unfold k0_part54_skel
  simp only [k0_part1_eq_skeleton]
  unfold k0_part1_skel
  simp only [semSignalWord, Prog.lift, Prog.bind_op, Prog.bind_ret, Prog.pure_eq_ret, Prog.bind_assoc, wp_deviceId]
  -- the two units to the neighbours' barriers
  iapply (bar_signal m ρ c ⟨k0_dev1 c, k0_dev1_lt c⟩ 15 true 0 (Fin.ext (k0_dev1_eq c)) rfl rfl rfl) $$ [Ho0 Ho2 HP]
  · isplitr; · iexact Hrec
    isplitl [HP]; · iexact HP
    unfold barPay
    rw [show (⟨k0_dev1 c, k0_dev1_lt c⟩ : Dev nD) = src 0 c from Fin.ext (k0_dev1_eq c), if_pos rfl, lands_src 0 c, show (src 0 c) = src 2 c from rfl, lands_src 2 c]
    isplitl [Ho0] <;> iassumption
  iintro HP
  iapply (bar_signal m ρ c ⟨k0_dev2 c, k0_dev2_lt c⟩ 1 false 1 (Fin.ext (k0_dev2_eq c)) rfl rfl rfl) $$ [Ho1 Ho3 HP]
  · isplitr; · iexact Hrec
    isplitl [HP]; · iexact HP
    unfold barPay
    rw [show (⟨k0_dev2 c, k0_dev2_lt c⟩ : Dev nD) = src 1 c from Fin.ext (k0_dev2_eq c), if_neg (by decide), lands_src 1 c, show (src 1 c) = src 3 c from rfl, lands_src 3 c]
    isplitl [Ho1] <;> iassumption
  iintro HP
  -- the working copies of the operands
  iapply (wp_load 𝒱₀ (c : Thread nD τ) none Set.univ (m := xM) (Finset.subset_univ _)) $$ Hx; iintro Hx
  iapply (wp_load 𝒱₀ (c : Thread nD τ) none Set.univ (m := xbM) (Finset.subset_univ _)) $$ Hxb; iintro Hxb
  iapply (wp_store 𝒱₀ (c : Thread nD τ) none Set.univ (m := xbM) (r := Rect.unit (s := S4096x256) ![0, 0] S4096x256.size inb_S4096x256_S4096x256_0_0) (Mk := Finset.univ) (Finset.subset_univ _)) $$ Hxb; iintro Hxb
  iapply (wp_load 𝒱₀ (c : Thread nD τ) none Set.univ (m := wM) (Finset.subset_univ _)) $$ Hw; iintro Hw
  iapply (wp_load 𝒱₀ (c : Thread nD τ) none Set.univ (m := wbM) (Finset.subset_univ _)) $$ Hwb; iintro Hwb
  iapply (wp_store 𝒱₀ (c : Thread nD τ) none Set.univ (m := wbM) (r := Rect.unit (s := S256x2048) ![0, 0] S256x2048.size inb_S256x2048_S256x2048_0_0) (Mk := Finset.univ) (Finset.subset_univ _)) $$ Hwb; iintro Hwb
  ihave HX := (xw_intro m ρ c fx fw) $$ [Hxb Hwb]
  · isplitl [Hxb] <;> iassumption
  -- the first tile of every stream
  simp only [k0_part2_eq_skeleton, k0_part3_eq_skeleton]
  unfold k0_part2_skel k0_part3_skel
  simp only [semWaitWord, Prog.lift, Prog.bind_op, Prog.bind_ret, Prog.pure_eq_ret, Prog.bind_assoc]
  iapply (tile_first m ρ m5 0 c (fun _ => rfl) (k0_off1_eq c 0) rfl rfl (fun _ _ => rfl)) $$ [$HX $Hs0]
  iintro ⟨HX, Hs0⟩
  iapply (tile_first m ρ m7 1 c (fun _ => rfl) (k0_off2_eq c 0) rfl rfl (fun _ _ => rfl)) $$ [$HX $Hs1]
  iintro ⟨HX, Hs1⟩
  iapply (tile_first m ρ m6 2 c (fun _ => rfl) (k0_off1_eq c 0) rfl rfl (fun _ _ => rfl)) $$ [$HX $Hs2]
  iintro ⟨HX, Hs2⟩
  iapply (tile_first m ρ m8 3 c (fun _ => rfl) (k0_off2_eq c 0) rfl rfl (fun _ _ => rfl)) $$ [$HX $Hs3]
  iintro ⟨HX, Hs3⟩
  -- both neighbours are ready
  iapply (bar_wait m ρ c rfl rfl) $$ [$Hrec $Hlev $Hcb $HP $Hatb]
  iintro ⟨HP, Hatb, ⟨Hl1, Hl3⟩, Hl0, Hl2⟩
  ihave HT0 := (ts_start 0 c) $$ [$HS0 $Hl0]
  ihave HT1 := (ts_start 1 c) $$ [$HS1 $Hl1]
  ihave HT2 := (ts_start 2 c) $$ [$HS2 $Hl2]
  ihave HT3 := (ts_start 3 c) $$ [$HS3 $Hl3]
  -- the first hop of every stream
  simp only [k0_part4_eq_skeleton, k0_part5_eq_skeleton]
  unfold k0_part4_skel k0_part5_skel
  simp only [Prog.lift, Prog.bind_op, Prog.bind_ret, Prog.pure_eq_ret, Prog.bind_assoc]
  iapply (send_step m ρ 0 c ⟨k0_dev3 c, k0_dev3_lt c⟩ 0 2 (by decide) (Fin.ext (k0_dev3_eq c)) rfl rfl rfl rfl rfl) $$ [$Hrec $HP $HT0 $Hs0 $Hr0]
  iintro ⟨HP, HT0⟩
  iapply (send_step m ρ 1 c ⟨k0_dev4 c, k0_dev4_lt c⟩ 0 3 (by decide) (Fin.ext (k0_dev4_eq c)) rfl rfl rfl rfl rfl) $$ [$Hrec $HP $HT1 $Hs1 $Hr1]
  iintro ⟨HP, HT1⟩
  iapply (send_step m ρ 2 c ⟨k0_dev5 c, k0_dev5_lt c⟩ 0 4 (by decide) (Fin.ext (k0_dev5_eq c)) rfl rfl rfl rfl rfl) $$ [$Hrec $HP $HT2 $Hs2]
  · rw [ride_none 2 0 c (by decide)]; iempintro
  iintro ⟨HP, HT2⟩
  iapply (send_step m ρ 3 c ⟨k0_dev6 c, k0_dev6_lt c⟩ 0 5 (by decide) (Fin.ext (k0_dev6_eq c)) rfl rfl rfl rfl rfl) $$ [$Hrec $HP $HT3 $Hs3]
  · rw [ride_none 3 0 c (by decide)]; iempintro
  iintro ⟨HP, HT3⟩
  -- round 1
  simp only [k0_part6_eq_skeleton]
  unfold k0_part6_skel
  simp only [Prog.lift, Prog.bind_op, Prog.bind_ret, Prog.pure_eq_ret, Prog.bind_assoc]
  iapply (hop m ρ m5 0 c (fun _ => rfl) 0 6 (by decide) ⟨k0_dev7 c, k0_dev7_lt c⟩ (by decide) (by decide) rfl (Fin.ext (k0_dev7_eq c)) (k0_off1_eq c 1) rfl rfl (fun _ _ _ => rfl))
    $$ [$Hrec $Hlev $HX $HP $HR0 $HT0]
  iintro ⟨HX, HP, HR0, HT0⟩
  simp only [k0_part7_eq_skeleton, k0_part8_eq_skeleton, k0_part9_eq_skeleton, k0_part10_eq_skeleton]
  unfold k0_part7_skel k0_part8_skel k0_part9_skel k0_part10_skel
  simp only [Prog.lift, Prog.bind_op, Prog.bind_ret, Prog.pure_eq_ret, Prog.bind_assoc]
  iapply (hop m ρ m7 1 c (fun _ => rfl) 0 7 (by decide) ⟨k0_dev8 c, k0_dev8_lt c⟩ (by decide) (by decide) rfl (Fin.ext (k0_dev8_eq c)) (k0_off2_eq c 1) rfl rfl (fun _ _ _ => rfl))
    $$ [$Hrec $Hlev $HX $HP $HR1 $HT1]
  iintro ⟨HX, HP, HR1, HT1⟩
  iapply (hop m ρ m6 2 c (fun _ => rfl) 0 8 (by decide) ⟨k0_dev9 c, k0_dev9_lt c⟩ (by decide) (by decide) rfl (Fin.ext (k0_dev9_eq c)) (k0_off1_eq c 1) rfl rfl (fun _ _ _ => rfl))
    $$ [$Hrec $Hlev $HX $HP $HR2 $HT2]
  iintro ⟨HX, HP, HR2, HT2⟩
  iapply (hop m ρ m8 3 c (fun _ => rfl) 0 9 (by decide) ⟨k0_dev10 c, k0_dev10_lt c⟩ (by decide) (by decide) rfl (Fin.ext (k0_dev10_eq c)) (k0_off2_eq c 1) rfl rfl (fun _ _ _ => rfl))
    $$ [$Hrec $Hlev $HX $HP $HR3 $HT3]
  iintro ⟨HX, HP, HR3, HT3⟩
  -- round 2
  simp only [k0_part11_eq_skeleton, k0_part12_eq_skeleton, k0_part13_eq_skeleton, k0_part14_eq_skeleton, k0_part15_eq_skeleton]
  unfold k0_part11_skel k0_part12_skel k0_part13_skel k0_part14_skel k0_part15_skel
  simp only [Prog.lift, Prog.bind_op, Prog.bind_ret, Prog.pure_eq_ret, Prog.bind_assoc]
  iapply (hop m ρ m5 0 c (fun _ => rfl) 1 10 (by decide) ⟨k0_dev11 c, k0_dev11_lt c⟩ (by decide) (by decide) rfl (Fin.ext (k0_dev11_eq c)) (k0_off1_eq c 2) rfl rfl (fun _ _ _ => rfl))
    $$ [$Hrec $Hlev $HX $HP $HR0 $HT0]
  iintro ⟨HX, HP, HR0, HT0⟩
  iapply (hop m ρ m7 1 c (fun _ => rfl) 1 11 (by decide) ⟨k0_dev12 c, k0_dev12_lt c⟩ (by decide) (by decide) rfl (Fin.ext (k0_dev12_eq c)) (k0_off2_eq c 2) rfl rfl (fun _ _ _ => rfl))
    $$ [$Hrec $Hlev $HX $HP $HR1 $HT1]
  iintro ⟨HX, HP, HR1, HT1⟩
  iapply (hop m ρ m6 2 c (fun _ => rfl) 1 12 (by decide) ⟨k0_dev13 c, k0_dev13_lt c⟩ (by decide) (by decide) rfl (Fin.ext (k0_dev13_eq c)) (k0_off1_eq c 2) rfl rfl (fun _ _ _ => rfl))
    $$ [$Hrec $Hlev $HX $HP $HR2 $HT2]
  iintro ⟨HX, HP, HR2, HT2⟩
  iapply (hop m ρ m8 3 c (fun _ => rfl) 1 13 (by decide) ⟨k0_dev14 c, k0_dev14_lt c⟩ (by decide) (by decide) rfl (Fin.ext (k0_dev14_eq c)) (k0_off2_eq c 2) rfl rfl (fun _ _ _ => rfl))
    $$ [$Hrec $Hlev $HX $HP $HR3 $HT3]
  iintro ⟨HX, HP, HR3, HT3⟩
  -- round 3
  simp only [k0_part16_eq_skeleton, k0_part17_eq_skeleton, k0_part18_eq_skeleton, k0_part19_eq_skeleton, k0_part20_eq_skeleton, k0_part21_eq_skeleton]
  unfold k0_part16_skel k0_part17_skel k0_part18_skel k0_part19_skel k0_part20_skel k0_part21_skel
  simp only [Prog.lift, Prog.bind_op, Prog.bind_ret, Prog.pure_eq_ret, Prog.bind_assoc]
  iapply (hop m ρ m5 0 c (fun _ => rfl) 2 14 (by decide) ⟨k0_dev15 c, k0_dev15_lt c⟩ (by decide) (by decide) rfl (Fin.ext (k0_dev15_eq c)) (k0_off1_eq c 3) rfl rfl (fun _ _ _ => rfl))
    $$ [$Hrec $Hlev $HX $HP $HR0 $HT0]
  iintro ⟨HX, HP, HR0, HT0⟩
  iapply (hop m ρ m7 1 c (fun _ => rfl) 2 15 (by decide) ⟨k0_dev16 c, k0_dev16_lt c⟩ (by decide) (by decide) rfl (Fin.ext (k0_dev16_eq c)) (k0_off2_eq c 3) rfl rfl (fun _ _ _ => rfl))
    $$ [$Hrec $Hlev $HX $HP $HR1 $HT1]
  iintro ⟨HX, HP, HR1, HT1⟩
  iapply (hop m ρ m6 2 c (fun _ => rfl) 2 16 (by decide) ⟨k0_dev17 c, k0_dev17_lt c⟩ (by decide) (by decide) rfl (Fin.ext (k0_dev17_eq c)) (k0_off1_eq c 3) rfl rfl (fun _ _ _ => rfl))
    $$ [$Hrec $Hlev $HX $HP $HR2 $HT2]
  iintro ⟨HX, HP, HR2, HT2⟩
  iapply (hop m ρ m8 3 c (fun _ => rfl) 2 17 (by decide) ⟨k0_dev18 c, k0_dev18_lt c⟩ (by decide) (by decide) rfl (Fin.ext (k0_dev18_eq c)) (k0_off2_eq c 3) rfl rfl (fun _ _ _ => rfl))
    $$ [$Hrec $Hlev $HX $HP $HR3 $HT3]
  iintro ⟨HX, HP, HR3, HT3⟩
  -- round 4
  simp only [k0_part22_eq_skeleton, k0_part23_eq_skeleton, k0_part24_eq_skeleton, k0_part25_eq_skeleton, k0_part26_eq_skeleton]
  unfold k0_part22_skel k0_part23_skel k0_part24_skel k0_part25_skel k0_part26_skel
  simp only [Prog.lift, Prog.bind_op, Prog.bind_ret, Prog.pure_eq_ret, Prog.bind_assoc]
  iapply (hop m ρ m5 0 c (fun _ => rfl) 3 18 (by decide) ⟨k0_dev19 c, k0_dev19_lt c⟩ (by decide) (by decide) rfl (Fin.ext (k0_dev19_eq c)) (k0_off1_eq c 4) rfl rfl (fun _ _ _ => rfl))
    $$ [$Hrec $Hlev $HX $HP $HR0 $HT0]
  iintro ⟨HX, HP, HR0, HT0⟩
  iapply (hop m ρ m7 1 c (fun _ => rfl) 3 19 (by decide) ⟨k0_dev20 c, k0_dev20_lt c⟩ (by decide) (by decide) rfl (Fin.ext (k0_dev20_eq c)) (k0_off2_eq c 4) rfl rfl (fun _ _ _ => rfl))
    $$ [$Hrec $Hlev $HX $HP $HR1 $HT1]
  iintro ⟨HX, HP, HR1, HT1⟩
  iapply (hop m ρ m6 2 c (fun _ => rfl) 3 20 (by decide) ⟨k0_dev21 c, k0_dev21_lt c⟩ (by decide) (by decide) rfl (Fin.ext (k0_dev21_eq c)) (k0_off1_eq c 4) rfl rfl (fun _ _ _ => rfl))
    $$ [$Hrec $Hlev $HX $HP $HR2 $HT2]
  iintro ⟨HX, HP, HR2, HT2⟩
  iapply (hop m ρ m8 3 c (fun _ => rfl) 3 21 (by decide) ⟨k0_dev22 c, k0_dev22_lt c⟩ (by decide) (by decide) rfl (Fin.ext (k0_dev22_eq c)) (k0_off2_eq c 4) rfl rfl (fun _ _ _ => rfl))
    $$ [$Hrec $Hlev $HX $HP $HR3 $HT3]
  iintro ⟨HX, HP, HR3, HT3⟩
  -- round 5
  simp only [k0_part27_eq_skeleton, k0_part28_eq_skeleton, k0_part29_eq_skeleton, k0_part30_eq_skeleton, k0_part31_eq_skeleton, k0_part32_eq_skeleton]
  unfold k0_part27_skel k0_part28_skel k0_part29_skel k0_part30_skel k0_part31_skel k0_part32_skel
  simp only [Prog.lift, Prog.bind_op, Prog.bind_ret, Prog.pure_eq_ret, Prog.bind_assoc]
  iapply (hop m ρ m5 0 c (fun _ => rfl) 4 22 (by decide) ⟨k0_dev23 c, k0_dev23_lt c⟩ (by decide) (by decide) rfl (Fin.ext (k0_dev23_eq c)) (k0_off1_eq c 5) rfl rfl (fun _ _ _ => rfl))
    $$ [$Hrec $Hlev $HX $HP $HR0 $HT0]
  iintro ⟨HX, HP, HR0, HT0⟩
  iapply (hop m ρ m7 1 c (fun _ => rfl) 4 23 (by decide) ⟨k0_dev24 c, k0_dev24_lt c⟩ (by decide) (by decide) rfl (Fin.ext (k0_dev24_eq c)) (k0_off2_eq c 5) rfl rfl (fun _ _ _ => rfl))
    $$ [$Hrec $Hlev $HX $HP $HR1 $HT1]
  iintro ⟨HX, HP, HR1, HT1⟩
  iapply (hop m ρ m6 2 c (fun _ => rfl) 4 24 (by decide) ⟨k0_dev25 c, k0_dev25_lt c⟩ (by decide) (by decide) rfl (Fin.ext (k0_dev25_eq c)) (k0_off1_eq c 5) rfl rfl (fun _ _ _ => rfl))
    $$ [$Hrec $Hlev $HX $HP $HR2 $HT2]
  iintro ⟨HX, HP, HR2, HT2⟩
  iapply (hop m ρ m8 3 c (fun _ => rfl) 4 25 (by decide) ⟨k0_dev26 c, k0_dev26_lt c⟩ (by decide) (by decide) rfl (Fin.ext (k0_dev26_eq c)) (k0_off2_eq c 5) rfl rfl (fun _ _ _ => rfl))
    $$ [$Hrec $Hlev $HX $HP $HR3 $HT3]
  iintro ⟨HX, HP, HR3, HT3⟩
  -- round 6
  simp only [k0_part33_eq_skeleton, k0_part34_eq_skeleton, k0_part35_eq_skeleton, k0_part36_eq_skeleton, k0_part37_eq_skeleton]
  unfold k0_part33_skel k0_part34_skel k0_part35_skel k0_part36_skel k0_part37_skel
  simp only [Prog.lift, Prog.bind_op, Prog.bind_ret, Prog.pure_eq_ret, Prog.bind_assoc]
  iapply (hop m ρ m5 0 c (fun _ => rfl) 5 26 (by decide) ⟨k0_dev27 c, k0_dev27_lt c⟩ (by decide) (by decide) rfl (Fin.ext (k0_dev27_eq c)) (k0_off1_eq c 6) rfl rfl (fun _ _ _ => rfl))
    $$ [$Hrec $Hlev $HX $HP $HR0 $HT0]
  iintro ⟨HX, HP, HR0, HT0⟩
  iapply (hop m ρ m7 1 c (fun _ => rfl) 5 27 (by decide) ⟨k0_dev28 c, k0_dev28_lt c⟩ (by decide) (by decide) rfl (Fin.ext (k0_dev28_eq c)) (k0_off2_eq c 6) rfl rfl (fun _ _ _ => rfl))
    $$ [$Hrec $Hlev $HX $HP $HR1 $HT1]
  iintro ⟨HX, HP, HR1, HT1⟩
  iapply (hop m ρ m6 2 c (fun _ => rfl) 5 28 (by decide) ⟨k0_dev29 c, k0_dev29_lt c⟩ (by decide) (by decide) rfl (Fin.ext (k0_dev29_eq c)) (k0_off1_eq c 6) rfl rfl (fun _ _ _ => rfl))
    $$ [$Hrec $Hlev $HX $HP $HR2 $HT2]
  iintro ⟨HX, HP, HR2, HT2⟩
  iapply (hop m ρ m8 3 c (fun _ => rfl) 5 29 (by decide) ⟨k0_dev30 c, k0_dev30_lt c⟩ (by decide) (by decide) rfl (Fin.ext (k0_dev30_eq c)) (k0_off2_eq c 6) rfl rfl (fun _ _ _ => rfl))
    $$ [$Hrec $Hlev $HX $HP $HR3 $HT3]
  iintro ⟨HX, HP, HR3, HT3⟩
  -- round 7, the two streams of eight hops
  simp only [k0_part38_eq_skeleton, k0_part39_eq_skeleton, k0_part40_eq_skeleton]
  unfold k0_part38_skel k0_part39_skel k0_part40_skel
  simp only [Prog.lift, Prog.bind_op, Prog.bind_ret, Prog.pure_eq_ret, Prog.bind_assoc]
  iapply (hop m ρ m5 0 c (fun _ => rfl) 6 30 (by decide) ⟨k0_dev31 c, k0_dev31_lt c⟩ (by decide) (by decide) rfl (Fin.ext (k0_dev31_eq c)) (k0_off1_eq c 7) rfl rfl (fun _ _ _ => rfl))
    $$ [$Hrec $Hlev $HX $HP $HR0 $HT0]
  iintro ⟨HX, HP, HR0, HT0⟩
  iapply (hop m ρ m6 2 c (fun _ => rfl) 6 31 (by decide) ⟨k0_dev32 c, k0_dev32_lt c⟩ (by decide) (by decide) rfl (Fin.ext (k0_dev32_eq c)) (k0_off1_eq c 7) rfl rfl (fun _ _ _ => rfl))
    $$ [$Hrec $Hlev $HX $HP $HR2 $HT2]
  iintro ⟨HX, HP, HR2, HT2⟩
  -- the last arrivals and the two halves
  simp only [k0_part41_eq_skeleton, k0_part42_eq_skeleton]
  unfold k0_part41_skel k0_part42_skel
  simp only [Prog.lift, Prog.bind_op, Prog.bind_ret, Prog.pure_eq_ret, Prog.bind_assoc]
  iapply (recv_step m ρ 0 c 7 32 (by decide) (by decide) rfl rfl) $$ [$Hrec $Hlev $HP $HR0]
  iintro ⟨HP, HR0, Hs0, -⟩
  iapply (recv_step m ρ 1 c 6 32 (by decide) (by decide) rfl rfl) $$ [$Hrec $Hlev $HP $HR1]
  iintro ⟨HP, HR1, Hs1, -⟩
  iapply (fin_half m ρ m5 m7 0 1 (fun _ => rfl) (fun _ => rfl) c 8 7 0 _ _ _ rfl rfl (k0_off3_eq c) rfl (fun _ _ _ _ => rfl)) $$ [$HX $Hs0 $Hs1 $Ho]
  iintro ⟨HX, Hs0, Hs1, Ho⟩
  iapply (recv_step m ρ 2 c 7 32 (by decide) (by decide) rfl rfl) $$ [$Hrec $Hlev $HP $HR2]
  iintro ⟨HP, HR2, Hs2, -⟩
  iapply (recv_step m ρ 3 c 6 32 (by decide) (by decide) rfl rfl) $$ [$Hrec $Hlev $HP $HR3]
  iintro ⟨HP, HR3, Hs3, -⟩
  iapply (fin_half m ρ m6 m8 2 3 (fun _ => rfl) (fun _ => rfl) c 8 7 1 _ _ _ rfl rfl (k0_off3_eq c) rfl (fun _ _ _ _ => rfl)) $$ [$HX $Hs2 $Hs3 $Ho]
  iintro ⟨HX, Hs2, Hs3, Ho⟩
  -- the largest magnitude, and its way to every other device
  iapply (max_store m ρ c (k0_off4_eq c) (pay_max m ρ c)) $$ Hrow
  iintro Hrow
  ihave HR0 := (show RS (F := F) 0 c (7 + 1) ⊢ iprop((bigSep (Finset.range 8) fun j => kept 0 j c) ∗ RP 0 c) from rs_done 0 c) $$ HR0; icases HR0 with ⟨Hk0, HR0⟩
  ihave HR1 := (show RS (F := F) 1 c (6 + 1) ⊢ iprop((bigSep (Finset.range 7) fun j => kept 1 j c) ∗ RP 1 c) from rs_done 1 c) $$ HR1; icases HR1 with ⟨Hk1, HR1⟩
  ihave HR2 := (show RS (F := F) 2 c (7 + 1) ⊢ iprop((bigSep (Finset.range 8) fun j => kept 2 j c) ∗ RP 2 c) from rs_done 2 c) $$ HR2; icases HR2 with ⟨-, HR2⟩
  ihave HR3 := (show RS (F := F) 3 c (6 + 1) ⊢ iprop((bigSep (Finset.range 7) fun j => kept 3 j c) ∗ RP 3 c) from rs_done 3 c) $$ HR3; icases HR3 with ⟨-, HR3⟩
  ihave HS := (as_start m ρ c) $$ [$Hrow $Has $Hk0 $Hk1]
  simp only [k0_part43_eq_skeleton, k0_part44_eq_skeleton, k0_part45_eq_skeleton, k0_part46_eq_skeleton, k0_part47_eq_skeleton]
  unfold k0_part43_skel k0_part44_skel k0_part45_skel k0_part46_skel k0_part47_skel
  simp only [Prog.lift, Prog.bind_op, Prog.bind_ret, Prog.pure_eq_ret, Prog.bind_assoc]
  iapply (max_send m ρ c ⟨k0_dev33 c, k0_dev33_lt c⟩ 0 32 (by decide) (Fin.ext (k0_dev33_eq c)) rfl rfl rfl rfl rfl) $$ [$Hrec $HP $HS]
  iintro ⟨HP, HS⟩
  iapply (max_send m ρ c ⟨k0_dev34 c, k0_dev34_lt c⟩ 1 33 (by decide) (Fin.ext (k0_dev34_eq c)) rfl rfl rfl rfl rfl) $$ [$Hrec $HP $HS]
  iintro ⟨HP, HS⟩
  iapply (max_send m ρ c ⟨k0_dev35 c, k0_dev35_lt c⟩ 2 34 (by decide) (Fin.ext (k0_dev35_eq c)) rfl rfl rfl rfl rfl) $$ [$Hrec $HP $HS]
  iintro ⟨HP, HS⟩
  iapply (max_send m ρ c ⟨k0_dev36 c, k0_dev36_lt c⟩ 3 35 (by decide) (Fin.ext (k0_dev36_eq c)) rfl rfl rfl rfl rfl) $$ [$Hrec $HP $HS]
  iintro ⟨HP, HS⟩
  iapply (max_send m ρ c ⟨k0_dev37 c, k0_dev37_lt c⟩ 4 36 (by decide) (Fin.ext (k0_dev37_eq c)) rfl rfl rfl rfl rfl) $$ [$Hrec $HP $HS]
  iintro ⟨HP, HS⟩
  iapply (max_send m ρ c ⟨k0_dev38 c, k0_dev38_lt c⟩ 5 37 (by decide) (Fin.ext (k0_dev38_eq c)) rfl rfl rfl rfl rfl) $$ [$Hrec $HP $HS]
  iintro ⟨HP, HS⟩
  iapply (max_send m ρ c ⟨k0_dev39 c, k0_dev39_lt c⟩ 6 38 (by decide) (Fin.ext (k0_dev39_eq c)) rfl rfl rfl rfl rfl) $$ [$Hrec $HP $HS]
  iintro ⟨HP, HS⟩
  iapply (max_send m ρ c ⟨k0_dev40 c, k0_dev40_lt c⟩ 7 39 (by decide) (Fin.ext (k0_dev40_eq c)) rfl rfl rfl rfl rfl) $$ [$Hrec $HP $HS]
  iintro ⟨HP, HS⟩
  iapply (max_send m ρ c ⟨k0_dev41 c, k0_dev41_lt c⟩ 8 40 (by decide) (Fin.ext (k0_dev41_eq c)) rfl rfl rfl rfl rfl) $$ [$Hrec $HP $HS]
  iintro ⟨HP, HS⟩
  iapply (max_send m ρ c ⟨k0_dev42 c, k0_dev42_lt c⟩ 9 41 (by decide) (Fin.ext (k0_dev42_eq c)) rfl rfl rfl rfl rfl) $$ [$Hrec $HP $HS]
  iintro ⟨HP, HS⟩
  iapply (max_send m ρ c ⟨k0_dev43 c, k0_dev43_lt c⟩ 10 42 (by decide) (Fin.ext (k0_dev43_eq c)) rfl rfl rfl rfl rfl) $$ [$Hrec $HP $HS]
  iintro ⟨HP, HS⟩
  iapply (max_send m ρ c ⟨k0_dev44 c, k0_dev44_lt c⟩ 11 43 (by decide) (Fin.ext (k0_dev44_eq c)) rfl rfl rfl rfl rfl) $$ [$Hrec $HP $HS]
  iintro ⟨HP, HS⟩
  iapply (max_send m ρ c ⟨k0_dev45 c, k0_dev45_lt c⟩ 12 44 (by decide) (Fin.ext (k0_dev45_eq c)) rfl rfl rfl rfl rfl) $$ [$Hrec $HP $HS]
  iintro ⟨HP, HS⟩
  iapply (max_send m ρ c ⟨k0_dev46 c, k0_dev46_lt c⟩ 13 45 (by decide) (Fin.ext (k0_dev46_eq c)) rfl rfl rfl rfl rfl) $$ [$Hrec $HP $HS]
  iintro ⟨HP, HS⟩
  iapply (max_send m ρ c ⟨k0_dev47 c, k0_dev47_lt c⟩ 14 46 (by decide) (Fin.ext (k0_dev47_eq c)) rfl rfl rfl rfl rfl) $$ [$Hrec $HP $HS]
  iintro ⟨HP, HS⟩
  -- the transfers still out
  simp only [k0_part48_eq_skeleton, k0_part49_eq_skeleton, k0_part50_eq_skeleton]
  unfold k0_part48_skel k0_part49_skel k0_part50_skel
  simp only [Prog.lift, Prog.bind_op, Prog.bind_ret, Prog.pure_eq_ret, Prog.bind_assoc]
  iapply (sent_step m ρ 0 c 7 47 (by decide) (by decide) rfl rfl) $$ [$Hrec $Hlev $HP $HT0]
  iintro ⟨HP, HT0⟩
  iapply (sent_step m ρ 1 c 6 47 (by decide) (by decide) rfl rfl) $$ [$Hrec $Hlev $HP $HT1]
  iintro ⟨HP, HT1⟩
  iapply (sent_step m ρ 2 c 7 47 (by decide) (by decide) rfl rfl) $$ [$Hrec $Hlev $HP $HT2]
  iintro ⟨HP, HT2⟩
  iapply (sent_step m ρ 3 c 6 47 (by decide) (by decide) rfl rfl) $$ [$Hrec $Hlev $HP $HT3]
  iintro ⟨HP, HT3⟩
  ihave HW := (aw_start m ρ c) $$ [$HS $Haw]
  icases HW with ⟨Hrow, HW⟩
  iapply (max_sent m ρ c 0 47 (by decide) (by decide) rfl rfl) $$ [$Hrec $Hlev $HP $HW]
  iintro ⟨HP, HW⟩
  iapply (max_sent m ρ c 1 47 (by decide) (by decide) rfl rfl) $$ [$Hrec $Hlev $HP $HW]
  iintro ⟨HP, HW⟩
  iapply (max_sent m ρ c 2 47 (by decide) (by decide) rfl rfl) $$ [$Hrec $Hlev $HP $HW]
  iintro ⟨HP, HW⟩
  iapply (max_sent m ρ c 3 47 (by decide) (by decide) rfl rfl) $$ [$Hrec $Hlev $HP $HW]
  iintro ⟨HP, HW⟩
  iapply (max_sent m ρ c 4 47 (by decide) (by decide) rfl rfl) $$ [$Hrec $Hlev $HP $HW]
  iintro ⟨HP, HW⟩
  iapply (max_sent m ρ c 5 47 (by decide) (by decide) rfl rfl) $$ [$Hrec $Hlev $HP $HW]
  iintro ⟨HP, HW⟩
  iapply (max_sent m ρ c 6 47 (by decide) (by decide) rfl rfl) $$ [$Hrec $Hlev $HP $HW]
  iintro ⟨HP, HW⟩
  iapply (max_sent m ρ c 7 47 (by decide) (by decide) rfl rfl) $$ [$Hrec $Hlev $HP $HW]
  iintro ⟨HP, HW⟩
  iapply (max_sent m ρ c 8 47 (by decide) (by decide) rfl rfl) $$ [$Hrec $Hlev $HP $HW]
  iintro ⟨HP, HW⟩
  iapply (max_sent m ρ c 9 47 (by decide) (by decide) rfl rfl) $$ [$Hrec $Hlev $HP $HW]
  iintro ⟨HP, HW⟩
  iapply (max_sent m ρ c 10 47 (by decide) (by decide) rfl rfl) $$ [$Hrec $Hlev $HP $HW]
  iintro ⟨HP, HW⟩
  iapply (max_sent m ρ c 11 47 (by decide) (by decide) rfl rfl) $$ [$Hrec $Hlev $HP $HW]
  iintro ⟨HP, HW⟩
  iapply (max_sent m ρ c 12 47 (by decide) (by decide) rfl rfl) $$ [$Hrec $Hlev $HP $HW]
  iintro ⟨HP, HW⟩
  iapply (max_sent m ρ c 13 47 (by decide) (by decide) rfl rfl) $$ [$Hrec $Hlev $HP $HW]
  iintro ⟨HP, HW⟩
  iapply (max_sent m ρ c 14 47 (by decide) (by decide) rfl rfl) $$ [$Hrec $Hlev $HP $HW]
  iintro ⟨HP, HW⟩
  simp only [k0_part51_eq_skeleton, k0_part52_eq_skeleton, k0_part53_eq_skeleton]
  unfold k0_part52_skel k0_part53_skel
  simp only [Prog.lift, Prog.bind_op, Prog.bind_ret, Prog.pure_eq_ret, Prog.bind_assoc]
  iapply (max_recv m ρ c 0 47 (by decide) (by decide) rfl rfl) $$ [$Hrec $Hlev $HP $HAR]
  iintro ⟨HP, HAR⟩
  iapply (max_recv m ρ c 1 47 (by decide) (by decide) rfl rfl) $$ [$Hrec $Hlev $HP $HAR]
  iintro ⟨HP, HAR⟩
  iapply (max_recv m ρ c 2 47 (by decide) (by decide) rfl rfl) $$ [$Hrec $Hlev $HP $HAR]
  iintro ⟨HP, HAR⟩
  iapply (max_recv m ρ c 3 47 (by decide) (by decide) rfl rfl) $$ [$Hrec $Hlev $HP $HAR]
  iintro ⟨HP, HAR⟩
  iapply (max_recv m ρ c 4 47 (by decide) (by decide) rfl rfl) $$ [$Hrec $Hlev $HP $HAR]
  iintro ⟨HP, HAR⟩
  iapply (max_recv m ρ c 5 47 (by decide) (by decide) rfl rfl) $$ [$Hrec $Hlev $HP $HAR]
  iintro ⟨HP, HAR⟩
  iapply (max_recv m ρ c 6 47 (by decide) (by decide) rfl rfl) $$ [$Hrec $Hlev $HP $HAR]
  iintro ⟨HP, HAR⟩
  iapply (max_recv m ρ c 7 47 (by decide) (by decide) rfl rfl) $$ [$Hrec $Hlev $HP $HAR]
  iintro ⟨HP, HAR⟩
  iapply (max_recv m ρ c 8 47 (by decide) (by decide) rfl rfl) $$ [$Hrec $Hlev $HP $HAR]
  iintro ⟨HP, HAR⟩
  iapply (max_recv m ρ c 9 47 (by decide) (by decide) rfl rfl) $$ [$Hrec $Hlev $HP $HAR]
  iintro ⟨HP, HAR⟩
  iapply (max_recv m ρ c 10 47 (by decide) (by decide) rfl rfl) $$ [$Hrec $Hlev $HP $HAR]
  iintro ⟨HP, HAR⟩
  iapply (max_recv m ρ c 11 47 (by decide) (by decide) rfl rfl) $$ [$Hrec $Hlev $HP $HAR]
  iintro ⟨HP, HAR⟩
  iapply (max_recv m ρ c 12 47 (by decide) (by decide) rfl rfl) $$ [$Hrec $Hlev $HP $HAR]
  iintro ⟨HP, HAR⟩
  iapply (max_recv m ρ c 13 47 (by decide) (by decide) rfl rfl) $$ [$Hrec $Hlev $HP $HAR]
  iintro ⟨HP, HAR⟩
  iapply (max_recv m ρ c 14 47 (by decide) (by decide) rfl rfl) $$ [$Hrec $Hlev $HP $HAR]
  iintro ⟨HP, HAR⟩
  ihave HA := (am_join m ρ c) $$ [$Hrow $HW $HAR]
  -- the quantised result
  ihave Ho := (out_whole m ρ c fo) $$ Ho
  unfold AM₁
  icases HA with ⟨HA, HA1, HA2⟩
  iapply (wp_load 𝒱₀ (c : Thread nD τ) none Set.univ (m := aM) (Finset.subset_univ _)) $$ HA; iintro HA
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := Rect.unit (s := S256x2048) ![0, 0] S256x2048.size inb_S256x2048_S256x2048_0_0) (Mk := Finset.univ) (Finset.subset_univ _)) $$ Ho; iintro Ho
  rw [wp_ret]
  ihave Ho := (out_done m ρ c) $$ Ho
  iapply Hk
  unfold bodyOut AM₁
  isplitl [HP]; · iexact HP
  isplitl [Hatb]; · iexact Hatb
  isplitl [HR0 HR1 HR2 HR3]
  · isplitl [HR0]; · iexact HR0
    isplitl [HR1]; · iexact HR1
    isplitl [HR2] <;> iassumption
  isplitl [HT0 HT1 HT2 HT3]
  · isplitl [HT0]; · iexact HT0
    isplitl [HT1]; · iexact HT1
    isplitl [HT2]; · iexact HT2
    iexact HT3
  isplitl [Hs0 Hs1 Hs2 Hs3]
  · isplitl [Hs0]; · iapply (slotIs_any 0 8 c _) $$ Hs0
    isplitl [Hs1]; · iapply (slotIs_any 1 7 c _) $$ Hs1
    isplitl [Hs2]; · iapply (slotIs_any 2 8 c _) $$ Hs2
    iapply (slotIs_any 3 7 c _) $$ Hs3
  isplitl [HA HA1 HA2]
  · isplitl [HA]; · iexact HA
    isplitl [HA1] <;> iassumption
  isplitl [HX]; · iexact HX
  isplitl [Hx]; · iexact Hx
  isplitl [Hw]; · iexact Hw
  iexact Ho
end Cert.Ring

end
-- ==== Proof.Deal.lean ====
/-
# Dealing out cells, tokens, credits, slots and rows

Every family below is counted by a number and cut into consecutive runs: the sixty-four transfer cells of a device, and
its ninety-two tokens.
-/
module

public import proofs.«01_k».proof.Proof.Body

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 eq_ix2 idx2_lt0 idx2_lt1)

variable {F : FTy → Type} [FloatOps F]

local notation "𝕄" => MT nD τ sig Unit (Elt F) ℕ UU ℕ

variable (m : (ℓ : Loc nD τ sig) → Buf (Elt F) ℓ) (ρ : Dev nD → PrngReg)
section Runs
variable (D : ℕ → sProp (MT nD τ sig Unit (Elt F) ℕ UU ℕ))

omit [FloatOps F] in
/-- A run of `a + b` is a run of `a` and a run of `b`. -/
theorem range_add (a b : ℕ) : bigSep (Finset.range (a + b)) D = iprop(bigSep (Finset.range a) D ∗ bigSep (Finset.range b) fun i => D (a + i)) := by
  induction b with
  | zero =>
    rw [Finset.range_zero, bigSep_empty]
    refine BI.Entails.antisymm ?_ ?_
    · show (_ : sProp 𝕄) ⊢ _
      iintro H
      isplitl [H]
      · iexact H
      iempintro
    · show (_ : sProp 𝕄) ⊢ _
      iintro ⟨H, -⟩
      iexact H
  | succ b ih =>
    rw [← Nat.add_assoc, bigSep_range_succ, ih, bigSep_range_succ]
    refine BI.Entails.antisymm ?_ ?_
    · show (_ : sProp 𝕄) ⊢ _
      iintro ⟨H1, H0, H2⟩
      isplitl [H0]; · iexact H0
      isplitl [H1] <;> iassumption
    · show (_ : sProp 𝕄) ⊢ _
      iintro ⟨H0, H1, H2⟩
      isplitl [H1]; · iexact H1
      isplitl [H0] <;> iassumption

omit [FloatOps F] in
/-- The sixty-four cells from the third on, stream by stream. -/
theorem pos_split : (bigSep Finset.univ fun k : Fin 64 => D (k.val + 3))
    = iprop(D 3 ∗ D 4 ∗ D 5 ∗ D 6 ∗ (bigSep (Finset.range 8) fun j => D (7 + j)) ∗ (bigSep (Finset.range 8) fun j => D (15 + j))
      ∗ (bigSep (Finset.range 7) fun j => D (23 + j)) ∗ (bigSep (Finset.range 7) fun j => D (30 + j))
      ∗ (bigSep (Finset.range 15) fun j => D (37 + j)) ∗ (bigSep (Finset.range 15) fun j => D (52 + j))) := by
  have h (a b : ℕ) : bigSep (Finset.range (a + b)) (fun i => D (i + 3)) = iprop(bigSep (Finset.range a) (fun i => D (i + 3)) ∗ bigSep (Finset.range b) fun i => D (a + 3 + i)) := by
    rw [range_add]; simp only [Nat.add_right_comm]
  rw [Ring.bigSep_fin_eq_range 64 _ (fun i => D (i + 3)) (fun _ _ => rfl), h 49 15, h 34 15, h 27 7, h 20 7, h 12 8, h 4 8]
  rw [bigSep_range_succ, bigSep_range_succ, bigSep_range_succ, bigSep_range_succ, Finset.range_zero, bigSep_empty]
  refine BI.Entails.antisymm ?_ ?_
  · show (_ : sProp 𝕄) ⊢ _
    iintro ⟨⟨⟨⟨⟨⟨⟨H6, H5, H4, H3, -⟩, Ha⟩, Hb⟩, Hc⟩, Hd⟩, He⟩, Hf⟩
    iframe
  · show (_ : sProp 𝕄) ⊢ _
    iintro ⟨H3, H4, H5, H6, Ha, Hb, Hc, Hd, He, Hf⟩
    iframe
    iempintro

end Runs

/-! ## The tokens of a device, and the round of each -/

/-- Token `i`: the forty-seven duties, then one for each hop's send and each copy's send. -/
def tk (i : ℕ) : Due × ℕ :=
  if i < 1 then (⟨15, .reg barS, 1, true⟩, 0) else if i < 2 then (⟨1, .reg barS, 1, false⟩, 0)
  else if i < 10 then (hopDue 0 (i - 2), 0) else if i < 17 then (hopDue 1 (i - 10), 0) else if i < 25 then (hopDue 2 (i - 17), 0)
  else if i < 32 then (hopDue 3 (i - 25), 0) else if i < 47 then (maxDue (i - 32), 0)
  else if i < 55 then (⟨0, .dma (sndQ 0), NS, false⟩, i - 47) else if i < 62 then (⟨0, .dma (sndQ 1), NS, false⟩, i - 55)
  else if i < 70 then (⟨0, .dma (sndQ 2), NS, false⟩, i - 62) else if i < 77 then (⟨0, .dma (sndQ 3), NS, false⟩, i - 70)
  else (⟨0, .dma (asQ (i - 77)), NA, false⟩, 0)

section TkAt
theorem tk_0 : tk 0 = (⟨15, .reg barS, 1, true⟩, 0) := rfl
theorem tk_1 : tk 1 = (⟨1, .reg barS, 1, false⟩, 0) := rfl
theorem tk_h0 (j : ℕ) (h : j < 8) : tk (2 + j) = (hopDue 0 j, 0) := by
  unfold tk; rw [if_neg (by omega), if_neg (by omega), if_pos (by omega), Nat.add_sub_cancel_left]
theorem tk_h1 (j : ℕ) (h : j < 7) : tk (10 + j) = (hopDue 1 j, 0) := by
  unfold tk; rw [if_neg (by omega), if_neg (by omega), if_neg (by omega), if_pos (by omega), Nat.add_sub_cancel_left]
theorem tk_h2 (j : ℕ) (h : j < 8) : tk (17 + j) = (hopDue 2 j, 0) := by
  unfold tk; rw [if_neg (by omega), if_neg (by omega), if_neg (by omega), if_neg (by omega), if_pos (by omega), Nat.add_sub_cancel_left]
theorem tk_h3 (j : ℕ) (h : j < 7) : tk (25 + j) = (hopDue 3 j, 0) := by
  unfold tk; rw [if_neg (by omega), if_neg (by omega), if_neg (by omega), if_neg (by omega), if_neg (by omega), if_pos (by omega), Nat.add_sub_cancel_left]
theorem tk_mx (j : ℕ) (h : j < 15) : tk (32 + j) = (maxDue j, 0) := by
  unfold tk
  rw [if_neg (by omega), if_neg (by omega), if_neg (by omega), if_neg (by omega), if_neg (by omega), if_neg (by omega), if_pos (by omega), Nat.add_sub_cancel_left]
theorem tk_s0 (j : ℕ) (h : j < 8) : tk (47 + j) = (⟨0, .dma (sndQ 0), NS, false⟩, j) := by
  unfold tk
  rw [if_neg (by omega), if_neg (by omega), if_neg (by omega), if_neg (by omega), if_neg (by omega), if_neg (by omega), if_neg (by omega), if_pos (by omega), Nat.add_sub_cancel_left]
theorem tk_s1 (j : ℕ) (h : j < 7) : tk (55 + j) = (⟨0, .dma (sndQ 1), NS, false⟩, j) := by
  unfold tk
  rw [if_neg (by omega), if_neg (by omega), if_neg (by omega), if_neg (by omega), if_neg (by omega), if_neg (by omega), if_neg (by omega), if_neg (by omega), if_pos (by omega),
    Nat.add_sub_cancel_left]
theorem tk_s2 (j : ℕ) (h : j < 8) : tk (62 + j) = (⟨0, .dma (sndQ 2), NS, false⟩, j) := by
  unfold tk
  rw [if_neg (by omega), if_neg (by omega), if_neg (by omega), if_neg (by omega), if_neg (by omega), if_neg (by omega), if_neg (by omega), if_neg (by omega), if_neg (by omega),
    if_pos (by omega), Nat.add_sub_cancel_left]
theorem tk_s3 (j : ℕ) (h : j < 7) : tk (70 + j) = (⟨0, .dma (sndQ 3), NS, false⟩, j) := by
  unfold tk
  rw [if_neg (by omega), if_neg (by omega), if_neg (by omega), if_neg (by omega), if_neg (by omega), if_neg (by omega), if_neg (by omega), if_neg (by omega), if_neg (by omega),
    if_neg (by omega), if_pos (by omega), Nat.add_sub_cancel_left]
theorem tk_as (j : ℕ) : tk (77 + j) = (⟨0, .dma (asQ j), NA, false⟩, 0) := by
  unfold tk
  rw [if_neg (by omega), if_neg (by omega), if_neg (by omega), if_neg (by omega), if_neg (by omega), if_neg (by omega), if_neg (by omega), if_neg (by omega), if_neg (by omega),
    if_neg (by omega), if_neg (by omega), Nat.add_sub_cancel_left]
end TkAt

section Duties
variable (D : Due × ℕ → sProp (MT nD τ sig Unit (Elt F) ℕ UU ℕ))

/-- The duties of a device, stream by stream. -/
def byStream : sProp 𝕄 :=
  iprop(D (⟨15, .reg barS, 1, true⟩, 0) ∗ D (⟨1, .reg barS, 1, false⟩, 0)
    ∗ (bigSep (Finset.range 8) fun j => D (hopDue 0 j, 0)) ∗ (bigSep (Finset.range 7) fun j => D (hopDue 1 j, 0))
    ∗ (bigSep (Finset.range 8) fun j => D (hopDue 2 j, 0)) ∗ (bigSep (Finset.range 7) fun j => D (hopDue 3 j, 0))
    ∗ (bigSep (Finset.range 15) fun j => D (maxDue j, 0)))

omit [FloatOps F] in
theorem due_split : bigSep (Finset.range 47) (fun i => D (tk i)) = byStream D := by
  unfold byStream
  rw [show 47 = 32 + 15 from rfl, range_add, show 32 = 25 + 7 from rfl, range_add, show 25 = 17 + 8 from rfl, range_add, show 17 = 10 + 7 from rfl, range_add,
    show 10 = 2 + 8 from rfl, range_add, bigSep_range_succ, bigSep_range_succ, Finset.range_zero, bigSep_empty]
  rw [bigSep_congr (Φ := fun i => D (tk (2 + 8 + 7 + 8 + 7 + i))) fun j hj => congrArg D (tk_mx j (Finset.mem_range.mp hj)),
    bigSep_congr (Φ := fun i => D (tk (2 + 8 + 7 + 8 + i))) fun j hj => congrArg D (tk_h3 j (Finset.mem_range.mp hj)),
    bigSep_congr (Φ := fun i => D (tk (2 + 8 + 7 + i))) fun j hj => congrArg D (tk_h2 j (Finset.mem_range.mp hj)),
    bigSep_congr (Φ := fun i => D (tk (2 + 8 + i))) fun j hj => congrArg D (tk_h1 j (Finset.mem_range.mp hj)),
    bigSep_congr (Φ := fun i => D (tk (2 + i))) fun j hj => congrArg D (tk_h0 j (Finset.mem_range.mp hj)), tk_0, tk_1]
  refine BI.Entails.antisymm ?_ ?_
  · show (_ : sProp 𝕄) ⊢ _
    iintro ⟨⟨⟨⟨⟨⟨H1, H0, -⟩, Ha⟩, Hb⟩, Hc⟩, Hd⟩, He⟩
    iframe
  · show (_ : sProp 𝕄) ⊢ _
    iintro ⟨H0, H1, Ha, Hb, Hc, Hd, He⟩
    iframe
    iempintro

/-- The order the duties are paid in, by the number of the token. -/
def ord : List ℕ :=
  [0, 1] ++ ((List.range 7).flatMap fun j => [2 + j, 10 + j, 17 + j, 25 + j]) ++ [9, 24] ++ (List.range 15).map (32 + ·)

theorem dues_ord : dues = ord.map fun i => (tk i).1 := rfl
theorem ord_range : Finset.range 47 = ord.toFinset := by decide +kernel
theorem ord_nodup : ord.Nodup := by decide +kernel
theorem ord_round : ∀ i ∈ ord, (tk i).2 = 0 := by decide +kernel

omit [FloatOps F] in
theorem dues_split : bigSepL dues (fun e => D (e, 0)) = byStream D := by
  rw [dues_ord, bigSepL_map, ← due_split, bigSep_eq_bigSepL_of_eq ord ord_range ord_nodup]
  have (l : List ℕ) (h : ∀ i ∈ l, (tk i).2 = 0) : bigSepL l (fun i => D ((tk i).1, 0)) = bigSepL l fun i => D (tk i) := by
    refine BI.Entails.antisymm (bigSepL_mono fun i hi => ?_) (bigSepL_mono fun i hi => ?_)
    · rw [show tk i = ((tk i).1, 0) from Prod.ext rfl (h i hi)]
    · rw [show tk i = ((tk i).1, 0) from Prod.ext rfl (h i hi)]
  exact this ord ord_round

omit [FloatOps F] in
theorem tk_split : bigSep (Finset.range 92) (fun i => D (tk i)) = iprop(byStream D
    ∗ (bigSep (Finset.range 8) fun j => D (⟨0, .dma (sndQ 0), NS, false⟩, j)) ∗ (bigSep (Finset.range 7) fun j => D (⟨0, .dma (sndQ 1), NS, false⟩, j))
    ∗ (bigSep (Finset.range 8) fun j => D (⟨0, .dma (sndQ 2), NS, false⟩, j)) ∗ (bigSep (Finset.range 7) fun j => D (⟨0, .dma (sndQ 3), NS, false⟩, j))
    ∗ (bigSep (Finset.range 15) fun j => D (⟨0, .dma (asQ j), NA, false⟩, 0))) := by
  rw [show 92 = 77 + 15 from rfl, range_add, show 77 = 70 + 7 from rfl, range_add, show 70 = 62 + 8 from rfl, range_add, show 62 = 55 + 7 from rfl, range_add,
    show 55 = 47 + 8 from rfl, range_add, due_split]
  rw [bigSep_congr (Φ := fun i => D (tk (47 + 8 + 7 + 8 + 7 + i))) fun j hj => congrArg D (tk_as j),
    bigSep_congr (Φ := fun i => D (tk (47 + 8 + 7 + 8 + i))) fun j hj => congrArg D (tk_s3 j (Finset.mem_range.mp hj)),
    bigSep_congr (Φ := fun i => D (tk (47 + 8 + 7 + i))) fun j hj => congrArg D (tk_s2 j (Finset.mem_range.mp hj)),
    bigSep_congr (Φ := fun i => D (tk (47 + 8 + i))) fun j hj => congrArg D (tk_s1 j (Finset.mem_range.mp hj)),
    bigSep_congr (Φ := fun i => D (tk (47 + i))) fun j hj => congrArg D (tk_s0 j (Finset.mem_range.mp hj))]
  refine BI.Entails.antisymm ?_ ?_
  · show (_ : sProp 𝕄) ⊢ _
    iintro ⟨⟨⟨⟨⟨H0, Ha⟩, Hb⟩, Hc⟩, Hd⟩, He⟩
    iframe
  · show (_ : sProp 𝕄) ⊢ _
    iintro ⟨H0, Ha, Hb, Hc, Hd, He⟩
    iframe

end Duties

/-- The token, as the schedule names it, and the number it came from. -/
def tkKey (i : ℕ) : SemLoc sig × ℕ × Bool := ((tk i).1.sem, (tk i).2, (tk i).1.nm)
def tkBack : SemLoc sig × ℕ × Bool → ℕ
  | (.reg _, _, d) => if d then 0 else 1
  | (.dma q, r, _) => if q.val = 3 then 47 + r else if q.val = 4 then 62 + r else if q.val = 5 then 55 + r else if q.val = 6 then 70 + r
    else if q.val < 15 then q.val - 5 else if q.val < 23 then q.val + 2 else if q.val < 30 then q.val - 13 else if q.val < 37 then q.val - 5
    else if q.val < 52 then q.val + 40 else q.val - 20
theorem tkBack_key : ∀ i : Fin 92, tkBack (tkKey i.val) = i.val := by decide +kernel

/-! ## The slots of a stream's buffer -/

section Slots
variable {n : ℕ} (M : Memref sig .tc .vmem (SN (n + 1)) .bf16)

/-- The elements of slot `k`, as elements of the buffer. -/
def slS (k : ℕ) : Finset M.view.ty.Idx := (sl n M k).view.set

theorem mem_sl (k : ℕ) (hk : k ≤ n) (x : (SN (n + 1)).Idx) : M.view.emb x ∈ slS M k ↔ (x 0).val = k := by
  unfold slS
  refine (iff_of_eq (congrArg (M.view.emb x ∈ ·) (sl_set M k))).trans ((View.mem_setOn (v := M.view)).trans ?_)
  rw [ Rect.mem_set_unit]
  constructor
  · intro h
    have h0 := h 0
    have h0 : min k n ≤ (x 0).val ∧ (x 0).val < min k n + 1 := h0
    omega
  · intro h a
    match a with
    | 0 => show min k n ≤ (x 0).val ∧ (x 0).val < min k n + 1; omega
    | 1 => exact ⟨Nat.zero_le _, (Nat.zero_add 256).symm ▸ (x 1).isLt⟩
    | 2 => exact ⟨Nat.zero_le _, (Nat.zero_add 1024).symm ▸ (x 2).isLt⟩

variable (hw : ∀ i, ∃ x, M.view.emb x = i)
include hw

theorem sl_disjoint (k k' : Fin (n + 1)) (h : k ≠ k') : Disjoint (slS M k.val) (slS M k'.val) := by
  refine Finset.disjoint_left.mpr fun i h1 h2 => h (Fin.ext ?_)
  obtain ⟨x, rfl⟩ := hw i
  exact ((mem_sl M _ (Nat.le_of_lt_succ k.isLt) x).mp h1).symm.trans ((mem_sl M _ (Nat.le_of_lt_succ k'.isLt) x).mp h2)

theorem sl_cover : (Finset.univ : Finset (Fin (n + 1))).biUnion (fun k => slS M k.val) = Finset.univ := by
  refine Finset.eq_univ_iff_forall.mpr fun i => ?_
  obtain ⟨x, rfl⟩ := hw i
  have hx : (x 0).val < n + 1 := (x 0).isLt
  exact Finset.mem_biUnion.mpr ⟨⟨(x 0).val, hx⟩, Finset.mem_univ _, (mem_sl M _ (Nat.le_of_lt_succ hx) x).mpr rfl⟩

/-- A buffer of slots is its first slot and the landing slots. -/
theorem slots_split (s : Fin 4) (hM : ∀ k, sl n M k = slot s k) (hn : n = hops s) (c : Dev nD) (f : Buf (Elt F) (M.view.loc (c : Thread nD τ))) :
    (M.view.loc (c : Thread nD τ) ↦{fullShare} f : sProp 𝕄) ⊢ iprop(slotAny s 0 c ∗ own s c) := by
  unfold own
  rw [← Finset.range_eq_Ico, ← hn, ← sep_head (fun j => slotAny s j c),
    Ring.pointsTo_blocks (Val := Elt F) (Ix := Unit) (Name := ℕ) (U := UU) (Lvl := ℕ) (ℓ := M.view.loc (c : Thread nD τ)) (q := fullShare) (fun k : Fin (n + 1) => slS M k.val) (sl_disjoint M hw) (sl_cover M hw) f,
    Ring.bigSep_fin_eq_range (n + 1) _ (fun k => (M.view.loc (c : Thread nD τ) ↦[slS M k]{fullShare} f)) (fun _ _ => rfl)]
  refine bigSep_mono fun k _ => ?_
  rw [slotAny_eq M s hM k c]
  show (_ : sProp 𝕄) ⊢ iprop(∃ f : Buf (Elt F) (M.view.loc (c : Thread nD τ)), M.view.loc (c : Thread nD τ) ↦[slS M k]{fullShare} f)
  iintro H
  iexists f; iexact H

/-- The slots, each at some contents, are the buffer. -/
theorem slots_join (s : Fin 4) (hM : ∀ k, sl n M k = slot s k) (c : Dev nD) :
    iprop((bigSep (Finset.range n) fun j => slotAny (F := F) s j c) ∗ slotAny s n c) ⊢ iprop(∃ f : Buf (Elt F) (M.view.loc (c : Thread nD τ)), M.view.loc (c : Thread nD τ) ↦{fullShare} f) := by
  have key (f₀ : Buf (Elt F) (M.view.loc (c : Thread nD τ))) : (bigSep (Finset.range (n + 1)) (fun j => slotAny (F := F) s j c) : sProp 𝕄)
      ⊢ iprop(∃ f : Buf (Elt F) (M.view.loc (c : Thread nD τ)), M.view.loc (c : Thread nD τ) ↦{fullShare} f) := by
    refine BI.Entails.trans ?_ (Ring.pointsTo_blocks_join_exists (Val := Elt F) (Ix := Unit) (Name := ℕ) (U := UU) (Lvl := ℕ) (ℓ := M.view.loc (c : Thread nD τ)) (q := fullShare) (fun k : Fin (n + 1) => slS M k.val) (sl_disjoint M hw) (sl_cover M hw) f₀)
    rw [Ring.bigSep_fin_eq_range (n + 1) (fun k : Fin (n + 1) => iprop(∃ f : Buf (Elt F) (M.view.loc (c : Thread nD τ)), M.view.loc (c : Thread nD τ) ↦[slS M k.val]{fullShare} f))
      (fun j => slotAny s j c) (fun k _ => slotAny_eq M s hM k c)]
    show (_ : sProp 𝕄) ⊢ _
    iintro H
    iexact H
  rw [slotAny_eq M s hM n c]
  iintro ⟨H, ⟨%f, Hn⟩⟩
  iapply (key f)
  rw [bigSep_range_succ, slotAny_eq M s hM n c]
  isplitl [Hn]
  · iexists f; iexact Hn
  iexact H

end Slots

/-! ## The rows a device starts from -/

omit [FloatOps F] in
theorem rowsN_eq (s : Fin 4) (k : ℕ) (o c : Dev nD) : rowsN (F := F) s k o c = bigSep (Finset.range k) fun i => rowAny o (rot (step s * (i + 1)) c) := by
  induction k generalizing c with
  | zero => rfl
  | succ k ih =>
    rw [rowsN, ih, sep_head]
    have e0 : rot (step s * (0 + 1)) c = tgt s c := by rw [Nat.zero_add, Nat.mul_one]; rfl
    rw [e0]
    refine congrArg (fun X : sProp 𝕄 => iprop(rowAny o (tgt s c) ∗ X)) (bigSep_congr fun i _ => ?_)
    unfold tgt
    rw [rot_rot, Nat.mul_succ (step s) (i + 1), Nat.add_comm]

/-- A buffer of the maxima is the device's own row and the rows that ride with its two starting hops. -/
theorem rows_start (c : Dev nD) (f : Buf (Elt F) ((c : Thread nD τ).loc cc0_scratch6)) :
    ((c : Thread nD τ).loc cc0_scratch6 ↦{fullShare} f : sProp 𝕄) ⊢ iprop(rowAny c c ∗ ride 0 0 c ∗ ride 1 0 c) := by
  have hrow (r : Dev nD) : ((rowM r).view.loc (c : Thread nD τ) ↦[(rowM r).view.set]{fullShare} f : sProp 𝕄) ⊢ rowAny c r := by
    unfold rowAny; iintro H; iexists f; iexact H
  have h0 : ride (F := F) 0 0 c = bigSep (Finset.range 8) fun i => rowAny c (rot (i + 1) c) := by
    unfold ride
    rw [if_pos (by decide), rowsN_eq]
    refine bigSep_congr fun i _ => ?_
    rw [show step 0 * (i + 1) = i + 1 from Nat.one_mul _]; rfl
  have h1 : ride (F := F) 1 0 c = bigSep (Finset.range 7) fun i => rowAny c (rot (8 + i + 1) c) := by
    unfold ride
    rw [if_pos (by decide), rowsN_eq]
    have e (Ψ : ℕ → sProp 𝕄) : bigSep (Finset.range 7) (fun j => Ψ (6 - j)) = bigSep (Finset.range 7) Ψ := by
      rw [bigSep_eq_bigSepL_of_eq [6, 5, 4, 3, 2, 1, 0] (by decide) (by decide) (fun j => Ψ (6 - j)), bigSep_eq_bigSepL_of_eq [0, 1, 2, 3, 4, 5, 6] (by decide) (by decide) Ψ]
      rfl
    rw [← e (fun i => rowAny c (rot (8 + i + 1) c))]
    refine bigSep_congr fun i hi => ?_
    have hi : i < 7 := Finset.mem_range.mp hi
    rw [show (src 1)^[0] c = c from rfl, rot_mod (b := 8 + (6 - i) + 1)]
    show 15 * (i + 1) % 16 = _
    omega
  rw [rows_split, h0, h1]
  refine BIClass.sep_mono (hrow c) ?_
  rw [show 15 = 8 + 7 from rfl, range_add]
  exact BIClass.sep_mono (bigSep_mono fun i _ => hrow _) (bigSep_mono fun i _ => hrow _)

end Cert.Ring

end
-- ==== Proof.LaunchP.lean ====
/-
# The launch: the ghost state dealt to the devices, and what a device starts and ends with
-/
module

public import proofs.«01_k».proof.Proof.Deal
public import Idealize.ShloMosaic.Lib.Pipeline.CollectiveSegs

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 eq_ix2 idx2_lt0 idx2_lt1)

variable {F : FTy → Type} [FloatOps F]

local notation "𝕄" => MT nD τ sig Unit (Elt F) ℕ UU ℕ

variable (m : (ℓ : Loc nD τ sig) → Buf (Elt F) ℓ) (ρ : Dev nD → PrngReg)
/-! ## Cells and tokens -/

theorem csem_injective : Function.Injective csem := by
  rintro (k | k) (k' | k') h
  · have h1 : (dq (k.val + 3)).val = (dq (k'.val + 3)).val := congrArg Fin.val (SemLoc.dma.inj h)
    have h2 : (k.val + 3) % 67 = (k'.val + 3) % 67 := h1
    have := k.isLt; have := k'.isLt
    exact congrArg Sum.inl (Fin.ext (by omega))
  · cases h
  · cases h
  · rfl

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

def ringCells : Finset (GSem nD τ sig) := Finset.univ.map ⟨kcell, kcell_injective⟩

/-- Token `i` of device `c`: it is paid by `c`, at the cell of the device its duty goes to. -/
def tokOf (x : Dev nD × Fin 92) : GSem nD τ sig × ℕ × Bool := ((tk x.2.val).1.cell x.1, (tk x.2.val).2, (tk x.2.val).1.nm)

theorem tokOf_injective : Function.Injective tokOf := by
  rintro ⟨c, i⟩ ⟨c', i'⟩ h
  have hk : tkKey i.val = tkKey i'.val := congrArg (fun y : GSem nD τ sig × ℕ × Bool => (y.1.2, y.2.1, y.2.2)) h
  have hi : i = i' := Fin.ext ((tkBack_key i).symm.trans ((congrArg tkBack hk).trans (tkBack_key i')))
  subst hi
  have h1 : rot (tk i.val).1.k c = rot (tk i.val).1.k c' := congrArg (fun y : GSem nD τ sig × ℕ × Bool => y.1.1.1) h
  rw [(rotE (tk i.val).1.k).injective h1]

def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

/-- A token of device `c`, and all of them. -/
def tokAt (c : Dev nD) (x : Due × ℕ) : sProp 𝕄 := dutyTok (ER (F := F)) (x.1.cell c) x.2 x.1.nm
def ptoks (c : Dev nD) : sProp 𝕄 := bigSep (Finset.range 92) fun i => tokAt c (tk i)

def ownPos (c : Dev nD) : sProp 𝕄 := bigSep Finset.univ fun k : Fin 64 ⊕ Unit => atPos (ER (F := F)) (kcell (c, k)) 0 ∅ 0

/-- What the launch element deals device `c`, and what the opening of the cells makes of it. -/
def G (c : Dev nD) : sProp 𝕄 :=
  iprop((bigSep Finset.univ fun k : Fin 64 ⊕ Unit => roundState (ER (F := F)) (Rd m ρ) (kcell (c, k)) 0)
    ∗ (bigSep Finset.univ fun k : Fin 64 ⊕ Unit => reached (ER (F := F)) (kcell (c, k)) 0) ∗ ownPos c ∗ ptoks c)
def G' (c : Dev nD) : sProp 𝕄 := iprop(records (F := F) m ρ ∗ ownPos c ∗ ptoks c)

theorem fund_ring : BI.own ((ER (F := F)) (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 64 ⊕ Unit => Φ (kcell (c, k)) := by
    unfold ringCells; rw [bigSep_map, bigSep_univ_prod]; rfl
  have hT : bigSep ringToks (fun x => (dutyTok (ER (F := F)) x.1 x.2.1 x.2.2 : sProp 𝕄)) = bigSep Finset.univ fun c : Dev nD => ptoks c := by
    unfold ringToks; rw [bigSep_map, bigSep_univ_prod]
    exact bigSep_congr fun c _ => Ring.bigSep_fin_eq_range 92 _ (fun i => tokAt c (tk i)) fun _ _ => rfl
  iintro HX
  imod (Rounds.fund (ER (F := F)) (Rd m ρ) ringCells ringToks) $$ HX with ⟨Hst, Hr, Hat, Htok⟩
  imodintro
  ihave Hst' := (Entails.of_eq (hX fun g => roundState (ER (F := F)) (Rd m ρ) g 0)) $$ Hst
  ihave Hat' := (Entails.of_eq (hX fun g => atPos (ER (F := F)) g 0 ∅ 0)) $$ Hat
  ihave Hr' := (Entails.of_eq (hX fun g => reached (ER (F := F)) g 0)) $$ Hr
  ihave Htok' := (Entails.of_eq hT) $$ Htok
  unfold G ownPos; simp only [bigSep_sep']
  isplitl [Hst']; · iexact Hst'
  isplitl [Hr']; · iexact Hr'
  isplitl [Hat']; · iexact Hat'
  iexact Htok'

omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

theorem ownSemFacts : Pipeline.OwnSemFacts cfg0.spec osem := by decide +kernel

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 64 ⊕ Unit => known m ρ (kcell (c, k))) ∗ ownPos c ∗ ptoks c) := by
  have hv : iprop(Pipeline.ownSems0 (Ix := Unit) (Name := ℕ) (U := UU) (Lvl := ℕ) (Val := Elt F) (τ := τ) osem c ∗ unscopedSems0 c)
      = (bigSep Finset.univ fun k : Fin 64 ⊕ Unit => semVal (kcell (c, k)) 0 : sProp 𝕄) := by
    rw [bigSep_univ_sum, unscopedSems0_eq, bigSep_univ_eq_bigSepL [()] (by decide) (by decide) (fun k => semVal (kcell (c, .inr k)) 0)]
    rfl
  unfold G known
  rw [bigSep_sep']
  iintro ⟨Hos, Hus, Hst, Hr, Hat, Htok⟩
  ihave Hv := (Entails.of_eq hv) $$ [Hos Hus]
  · isplitl [Hos] <;> iassumption
  imod (show iprop((bigSep Finset.univ fun k : Fin 64 ⊕ Unit => semVal (kcell (c, k)) 0) ∗ bigSep Finset.univ fun k : Fin 64 ⊕ Unit => roundState (ER (F := F)) (Rd m ρ) (kcell (c, k)) 0)
      ⊢ (|={Set.univ}=> bigSep Finset.univ fun k => iprop(∃ κ : ℕ, cellInv (ER (F := F)) (Rd m ρ) κ (kcell (c, k))) : sProp 𝕄) from by
        rw [← bigSep_sep']
        exact (bigSep_mono fun k _ => (Rounds.body_intro (ER (F := F)) (Rd m ρ) (kcell (c, k))).trans inv_alloc).trans (bigSep_fupd _ _)) $$ [Hv Hst] with Hinv
  · isplitl [Hv] <;> iassumption
  imodintro
  isplitl [Hinv Hr]
  · isplitl [Hinv] <;> iassumption
  isplitl [Hat] <;> iassumption

omit [FloatOps F] in
/-- What holds of every member given a standing fact holds of the family. -/
theorem with_standing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 64 ⊕ Unit => known m ρ (kcell (c, k))) ∗ ownPos c ∗ ptoks c) : sProp 𝕄)
      ⊢ bigSep Finset.univ (G' m ρ) := by
  rw [bigSep_sep', ← bigSep_univ_prod (fun x : CellIx => known m ρ (kcell x))]
  exact with_standing (R := records m ρ) (Φ := fun c => iprop(ownPos c ∗ ptoks c)) fun c _ => Entails.of_eq rfl

/-- Every device's cells opened, all at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- What all the devices together owe device `c`. -/
def Tc (c : Dev nD) : CellTallies nD τ sig Unit := tal (fun e => e.own c) dues

theorem tal_sum (l : List Due) : (∑ d : Dev nD, tal (fun e => e.cell d) l) = ∑ d : Dev nD, tal (fun e => e.own d) l := by
  induction l with
  | nil => rfl
  | cons e l ih =>
    unfold tal
    rw [Finset.sum_add_distrib, Finset.sum_add_distrib, ih]
    exact congrArg _ (Equiv.sum_comp (rotE e.k) fun d => (tallyAt (e.own d) () e.amt : CellTallies nD τ sig Unit))

omit [FloatOps F] in
theorem launch_cred (c : Dev nD) : (Pipeline.launchCred O₀ c : sProp 𝕄) = cred (Tc c) :=
  Pipeline.launchCred_of_sum O₀ Tc (tal_sum dues) (fun d g hg => by
    obtain ⟨u, hu⟩ := DFunLike.ne_iff.mp hg
    obtain ⟨e, -, rfl⟩ := tal_pos _ dues (Nat.pos_of_ne_zero hu)
    rfl) c

omit [FloatOps F] in
theorem cred_tal (f : Due → GSem nD τ sig) (l : List Due) : (cred (tal f l) : sProp 𝕄) ⊢ bigSepL l fun e => cred (tallyAt (f e) () e.amt) := by
  induction l with
  | nil => unfold tal; iintro -; iempintro
  | cons e l ih =>
    unfold tal
    rw [bigSepL_cons']
    iintro H
    ihave H := (cred_add (tal f l) (tallyAt (f e) () e.amt)).1 $$ H
    icases H with ⟨Hl, He⟩
    isplitl [He]; · iexact He
    iapply ih; iexact Hl

/-! ## What a device starts with -/

def start (c : Dev nD) : sProp 𝕄 := iprop(G' m ρ c ∗ cred (Tc c) ∗ levAts L lv)

/-- The seven scratch buffers, each at some contents. -/
def scratch (c : Dev nD) : sProp 𝕄 := Pipeline.scopedRest (Ix := Unit) (Name := ℕ) (U := UU) (Lvl := ℕ) (Val := Elt F) spec0 c

def Φ₀ (c : Dev nD) : sProp 𝕄 := iprop(start m ρ c ∗ scratch c)
def Φ₁ (c : Dev nD) : sProp 𝕄 :=
  iprop(unscopedSems0 c ∗ Pipeline.ownSems0 (Ix := Unit) (Name := ℕ) (U := UU) (Lvl := ℕ) (Val := Elt F) (τ := τ) osem c ∗ scratch c)

omit [FloatOps F] in
theorem pos_start (c : Dev nD) : ownPos (F := F) c
    ⊢ iprop(((atPos (ER (F := F)) (sndC 0 c) 0 ∅ 0 ∗ atPos (ER (F := F)) (sndC 1 c) 0 ∅ 0 ∗ atPos (ER (F := F)) (sndC 2 c) 0 ∅ 0 ∗ atPos (ER (F := F)) (sndC 3 c) 0 ∅ 0)
        ∗ (bigSep (Finset.range 8) fun i => atPos (ER (F := F)) (rcvC 0 i c) 0 ∅ 0) ∗ (bigSep (Finset.range 7) fun i => atPos (ER (F := F)) (rcvC 1 i c) 0 ∅ 0)
        ∗ (bigSep (Finset.range 8) fun i => atPos (ER (F := F)) (rcvC 2 i c) 0 ∅ 0) ∗ (bigSep (Finset.range 7) fun i => atPos (ER (F := F)) (rcvC 3 i c) 0 ∅ 0)
        ∗ (bigSep (Finset.range 15) fun i => atPos (ER (F := F)) (asC i c) 0 ∅ 0) ∗ (bigSep (Finset.range 15) fun i => atPos (ER (F := F)) (arC i c) 0 ∅ 0))
      ∗ atPos (ER (F := F)) (barC c) 0 ∅ 0) := by
  unfold ownPos
  rw [bigSep_univ_sum, bigSep_univ_eq_bigSepL [()] (by decide) (by decide) (fun k => atPos (ER (F := F)) (kcell (c, .inr k)) 0 ∅ 0), bigSepL_singleton]
  have h := pos_split (F := F) (fun i => atPos (ER (F := F)) (((c : Thread nD τ), .dma (dq i)) : GSem nD τ sig) 0 ∅ 0)
  refine (sep_mono_left (Entails.of_eq h)).trans ?_
  show (_ : sProp 𝕄) ⊢ _
  iintro ⟨⟨H3, H4, H5, H6, Ha, Hb, Hc, Hd, He, Hf⟩, Hbar⟩
  isplitr [Hbar]
  · isplitl [H3 H4 H5 H6]
    · isplitl [H3]; · iexact H3
      isplitl [H5]; · iexact H5
      isplitl [H4]; · iexact H4
      iexact H6
    isplitl [Ha]; · iexact Ha
    isplitl [Hc]; · iexact Hc
    isplitl [Hb]; · iexact Hb
    isplitl [Hd]; · iexact Hd
    isplitl [He]; · iexact He
    iexact Hf
  iexact Hbar

omit [FloatOps F] in
theorem toks_start (c : Dev nD) : ptoks (F := F) c
    ⊢ iprop((bigSepL dues fun e => dutyTok (ER (F := F)) (e.cell c) 0 e.nm)
      ∗ (bigSep (Finset.range 8) fun i => dutyTok (ER (F := F)) (sndC 0 c) i false) ∗ (bigSep (Finset.range 7) fun i => dutyTok (ER (F := F)) (sndC 1 c) i false)
      ∗ (bigSep (Finset.range 8) fun i => dutyTok (ER (F := F)) (sndC 2 c) i false) ∗ (bigSep (Finset.range 7) fun i => dutyTok (ER (F := F)) (sndC 3 c) i false)
      ∗ bigSep (Finset.range 15) fun i => dutyTok (ER (F := F)) (asC i c) 0 false) := by
  have hs (q : DmaSem sig) (N r : ℕ) : tokAt (F := F) c (⟨0, .dma q, N, false⟩, r) = dutyTok (ER (F := F)) (((c : Thread nD τ), .dma q) : GSem nD τ sig) r false := by
    unfold tokAt Due.cell
    show dutyTok (ER (F := F)) (((rot 0 c : Thread nD τ), .dma q) : GSem nD τ sig) r false = _
    rw [rot_of_dvd 0 rfl c]
  unfold ptoks
  rw [tk_split (tokAt (F := F) c), ← dues_split (tokAt (F := F) c)]
  simp only [hs]
  exact Entails.of_eq rfl

omit [FloatOps F] in
theorem creds_start (c : Dev nD) : (cred (Tc c) : sProp 𝕄)
    ⊢ iprop(cred (tallyAt (barC c) () 2)
      ∗ (bigSep (Finset.range 8) fun i => cred (tallyAt (rcvC 0 i c) () NS)) ∗ (bigSep (Finset.range 7) fun i => cred (tallyAt (rcvC 1 i c) () NS))
      ∗ (bigSep (Finset.range 8) fun i => cred (tallyAt (rcvC 2 i c) () NS)) ∗ (bigSep (Finset.range 7) fun i => cred (tallyAt (rcvC 3 i c) () NS))
      ∗ bigSep (Finset.range 15) fun i => cred (tallyAt (arC i c) () NA)) := by
  refine (cred_tal (F := F) (fun e => e.own c) dues).trans ?_
  rw [dues_split (F := F) (fun x => cred (tallyAt (x.1.own c) () x.1.amt))]
  unfold byStream
  have hb : iprop(cred (tallyAt (barC c) () 1) ∗ cred (tallyAt (barC c) () 1)) ⊢ (cred (tallyAt (barC c) () 2) : sProp 𝕄) :=
    (cred_add _ _).2.trans (Entails.of_eq (congrArg cred (tallyAt_add (barC c) () 1 1)))
  show (_ : sProp 𝕄) ⊢ _
  iintro ⟨H0, H1, Ha, Hb, Hc, Hd, He⟩
  isplitl [H0 H1]
  · iapply hb
    isplitl [H0]; · iexact H0
    iexact H1
  isplitl [Ha]; · iexact Ha
  isplitl [Hb]; · iexact Hb
  isplitl [Hc]; · iexact Hc
  isplitl [Hd]; · iexact Hd
  iexact He

omit [FloatOps F] in
theorem scratch_eq (c : Dev nD) : scratch (F := F) c = iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_scratch3 ↦{fullShare} f) ∗ (∃ f, (c : Thread nD τ).loc cc0_scratch4 ↦{fullShare} f)
    ∗ (∃ f, (c : Thread nD τ).loc cc0_scratch5 ↦{fullShare} f) ∗ (∃ f, (c : Thread nD τ).loc cc0_scratch6 ↦{fullShare} f)) := scopedRest0_eq c

theorem rs_start (s : Fin 4) (c : Dev nD) :
    iprop((bigSep (Finset.range (hops s)) fun i => cred (tallyAt (rcvC s i c) () NS)) ∗ bigSep (Finset.range (hops s)) fun i => atPos (ER (F := F)) (rcvC s i c) 0 ∅ 0) ⊢ RS s c 0 := by
  unfold RS
  simp only [bigSep_sep', ← Finset.range_eq_Ico]
  iintro H
  isplitr
  · rw [Finset.range_zero, bigSep_empty, bigSep_empty]; isplitr <;> iempintro
  iexact H

theorem ss_start (s : Fin 4) (c : Dev nD) :
    iprop(records (F := F) m ρ ∗ atPos (ER (F := F)) (sndC s c) 0 ∅ 0 ∗ bigSep (Finset.range (hops s)) fun i => dutyTok (ER (F := F)) (sndC s c) i false) ⊢ SS s c := by
  unfold SS
  simp only [← Finset.range_eq_Ico]
  iintro ⟨#Hrec, Hat, Ht⟩
  isplitl [Hat]; · iexact Hat
  isplitr
  · ihave H := (known_dma m ρ c (sndQ s) (by fin_cases s <;> decide)) $$ Hrec
    unfold known
    icases H with ⟨-, H⟩
    iexact H
  iexact Ht

theorem ar_start (c : Dev nD) :
    iprop((bigSep (Finset.range 15) fun i => cred (tallyAt (arC i c) () NA)) ∗ bigSep (Finset.range 15) fun i => atPos (ER (F := F)) (arC i c) 0 ∅ 0) ⊢ AR m ρ c 0 := by
  unfold AR
  simp only [bigSep_sep', ← Finset.range_eq_Ico]
  iintro H
  isplitr
  · rw [Finset.range_zero, bigSep_empty, bigSep_empty]; isplitr <;> iempintro
  iexact H

theorem whole_emb (b : Ref sig .tc) (i : (Memref.whole b).view.ty.Idx) : ∃ x, (Memref.whole b).view.emb x = i := ⟨i, rfl⟩

theorem body_open (c : Dev nD) :
    iprop(Φ₀ m ρ c ∗ (∃ W, owes (c : Thread nD τ) (O₀ c) W) ∗ ((c : Thread nD τ).loc cc0_stg0_0 ↦{fullShare} xstgB m ρ c) ∗ ((c : Thread nD τ).loc cc0_stg1_0 ↦{fullShare} wstgB m ρ c)
        ∗ (∃ f : Buf (Elt F) ((c : Thread nD τ).loc cc0_stg2_0), (c : Thread nD τ).loc cc0_stg2_0 ↦{fullShare} f)) ⊢ bodyIn m ρ c := by
  unfold Φ₀ start G' bodyIn Pay
  rw [scratch_eq]
  iintro ⟨⟨⟨⟨#Hrec, Hpos, Htok⟩, Hcr, #Hlev⟩, Hx0, Hx1, ⟨%f2, Hx2⟩, ⟨%f3, Hx3⟩, ⟨%f4, Hx4⟩, ⟨%f5, Hx5⟩, ⟨%f6, Hx6⟩⟩, Ho, Hs0, Hs1, Hs2⟩
  ihave Hpos := (pos_start (F := F) c) $$ Hpos
  icases Hpos with ⟨⟨⟨Hp0, Hp1, Hp2, Hp3⟩, Hq0, Hq1, Hq2, Hq3, Hqs, Hqr⟩, Hbar⟩
  ihave Htok := (toks_start (F := F) c) $$ Htok
  icases Htok with ⟨Ht, Ht0, Ht1, Ht2, Ht3, Hts⟩
  ihave Hcr := (creds_start (F := F) c) $$ Hcr
  icases Hcr with ⟨Hcb, Hc0, Hc1, Hc2, Hc3, Hca⟩
  ihave Hx2 := (slots_split (n := 8) (Memref.whole cc0_scratch2) (whole_emb _) 0 (fun _ => rfl) rfl c f2) $$ Hx2
  icases Hx2 with ⟨Ha0, Hb0⟩
  ihave Hx4 := (slots_split (n := 7) (Memref.whole cc0_scratch4) (whole_emb _) 1 (fun _ => rfl) rfl c f4) $$ Hx4
  icases Hx4 with ⟨Ha1, Hb1⟩
  ihave Hx3 := (slots_split (n := 8) (Memref.whole cc0_scratch3) (whole_emb _) 2 (fun _ => rfl) rfl c f3) $$ Hx3
  icases Hx3 with ⟨Ha2, Hb2⟩
  ihave Hx5 := (slots_split (n := 7) (Memref.whole cc0_scratch5) (whole_emb _) 3 (fun _ => rfl) rfl c f5) $$ Hx5
  icases Hx5 with ⟨Ha3, Hb3⟩
  ihave Hrows := (rows_start c f6) $$ Hx6
  isplitr; · iexact Hrec
  isplitr; · iexact Hlev
  isplitl [Ho Ht]
  · isplitl [Ho]
    · iexact Ho
    iexact Ht
  isplitl [Hcb]; · iexact Hcb
  isplitl [Hbar]; · iexact Hbar
  isplitl [Hc0 Hc1 Hc2 Hc3 Hq0 Hq1 Hq2 Hq3]
  · isplitl [Hc0 Hq0]
    · iapply (rs_start (F := F) 0 c); isplitl [Hc0]; · iexact Hc0
      iexact Hq0
    isplitl [Hc1 Hq1]
    · iapply (rs_start (F := F) 1 c); isplitl [Hc1]; · iexact Hc1
      iexact Hq1
    isplitl [Hc2 Hq2]
    · iapply (rs_start (F := F) 2 c); isplitl [Hc2]; · iexact Hc2
      iexact Hq2
    iapply (rs_start (F := F) 3 c); isplitl [Hc3]; · iexact Hc3
    iexact Hq3
  isplitl [Ht0 Ht1 Ht2 Ht3 Hp0 Hp1 Hp2 Hp3]
  · isplitl [Ht0 Hp0]
    · iapply (ss_start m ρ 0 c); isplitr; · iexact Hrec
      isplitl [Hp0]; · iexact Hp0
      iexact Ht0
    isplitl [Ht1 Hp1]
    · iapply (ss_start m ρ 1 c); isplitr; · iexact Hrec
      isplitl [Hp1]; · iexact Hp1
      iexact Ht1
    isplitl [Ht2 Hp2]
    · iapply (ss_start m ρ 2 c); isplitr; · iexact Hrec
      isplitl [Hp2]; · iexact Hp2
      iexact Ht2
    iapply (ss_start m ρ 3 c); isplitr; · iexact Hrec
    isplitl [Hp3]; · iexact Hp3
    iexact Ht3
  isplitl [Ha0 Ha1 Ha2 Ha3]
  · isplitl [Ha0]; · iexact Ha0
    isplitl [Ha1]; · iexact Ha1
    isplitl [Ha2] <;> iassumption
  isplitl [Hb0 Hb1 Hb2 Hb3]
  · isplitl [Hb0]; · iexact Hb0
    isplitl [Hb1]; · iexact Hb1
    isplitl [Hb2] <;> iassumption
  isplitl [Hrows]; · iexact Hrows
  simp only [← Finset.range_eq_Ico]
  isplitl [Hts]; · iexact Hts
  isplitl [Hqs]; · iexact Hqs
  isplitl [Hca Hqr]
  · iapply (ar_start m ρ c); isplitl [Hca] <;> iassumption
  isplitl [Hx0]; · iexact Hx0
  isplitl [Hx1]; · iexact Hx1
  isplitl [Hs0]; · iexact Hs0
  isplitl [Hs1]; · iexact Hs1
  iexact Hs2

/-! ## What a device ends with -/

theorem close_cell (g : GSem nD τ sig) (R : ℕ) (hR : ∀ r, R ≤ r → (Rd (F := F) m ρ).duties g r = ∅) :
    iprop(known m ρ g ∗ atPos (ER (F := F)) g R ∅ 0) ⊢ (|={Set.univ}=> semVal g 0 : sProp 𝕄) := by
  unfold known
  iintro ⟨⟨⟨%κ, Hinv⟩, -⟩, Hat⟩
  iapply (Rounds.cell_close (ER (F := F)) (Rd m ρ) (Set.mem_univ κ) (fun h => h) (R := R) hR)
  isplitl [Hinv] <;> iassumption

theorem close_dma (c : Dev nD) (q : DmaSem sig) (R : ℕ) (h3 : 3 ≤ q.val) (hR : rnds q.val ≤ R) :
    iprop(records (F := F) m ρ ∗ atPos (ER (F := F)) ((c : Thread nD τ), .dma q) R ∅ 0) ⊢ (|={Set.univ}=> semVal ((c : Thread nD τ), .dma q) 0 : sProp 𝕄) :=
  (sep_mono_left (known_dma m ρ c q h3)).trans (close_cell m ρ _ R (duties_dma_done m ρ c q R hR))

theorem close_run (c : Dev nD) (q : ℕ → DmaSem sig) (n : ℕ) (h : ∀ i < n, 3 ≤ (q i).val ∧ rnds (q i).val ≤ 1) :
    iprop(records (F := F) m ρ ∗ bigSep (Finset.range n) fun i => atPos (ER (F := F)) ((c : Thread nD τ), .dma (q i)) 1 ∅ 0)
      ⊢ (|={Set.univ}=> bigSep (Finset.range n) fun i => semVal ((c : Thread nD τ), .dma (q i)) 0 : sProp 𝕄) :=
  (with_standing fun i hi => close_dma m ρ c (q i) 1 (h i (Finset.mem_range.mp hi)).1 (h i (Finset.mem_range.mp hi)).2).trans (bigSep_fupd _ _)

theorem close_rcv (s : Fin 4) (c : Dev nD) :
    iprop(records (F := F) m ρ ∗ RP s c) ⊢ (|={Set.univ}=> bigSep (Finset.range (hops s)) fun i => semVal (rcvC s i c) 0 : sProp 𝕄) :=
  close_run m ρ c (rcvQ s) (hops s) fun i hi => ⟨by rw [rcvQ_val s i hi]; have := rcv_lt s i hi; omega, (rnds_rcv s i hi).le⟩

theorem body_close (c : Dev nD) :
    iprop(records (F := F) m ρ ∗ bodyOut m ρ c) ⊢ |={Set.univ}=> iprop(Φ₁ (F := F) c ∗ (∃ W, owes (c : Thread nD τ) (0 : CellTallies nD τ sig Unit) W)
        ∗ ((c : Thread nD τ).loc cc0_stg0_0 ↦{fullShare} xstgB m ρ c) ∗ ((c : Thread nD τ).loc cc0_stg1_0 ↦{fullShare} wstgB m ρ c)
        ∗ ((c : Thread nD τ).loc cc0_stg2_0 ↦{fullShare} outB m ρ c)) := by
  unfold bodyOut Φ₁ Pay AM₁ XW TS
  rw [scratch_eq, unscopedSems0_eq, show dues.drop 47 = [] from rfl]
  iintro ⟨#Hrec, ⟨Ho, -⟩, Hbar, ⟨HR0, HR1, HR2, HR3⟩, ⟨⟨Hl0, Hp0, -, -⟩, ⟨Hl1, Hp1, -, -⟩, ⟨Hl2, Hp2, -, -⟩, ⟨Hl3, Hp3, -, -⟩⟩, ⟨Hz0, Hz1, Hz2, Hz3⟩,
    ⟨Ham, Hqs, Hqr⟩, ⟨Hx, Hw⟩, Hs0, Hs1, Hs2⟩
  imod (show iprop(records (F := F) m ρ ∗ atPos (ER (F := F)) (barC c) 1 ∅ 0) ⊢ (|={Set.univ}=> semVal (barC c) 0 : sProp 𝕄) from
    (sep_mono_left (known_bar m ρ c)).trans (close_cell m ρ _ 1 (duties_bar_done m ρ c))) $$ [Hbar] with Hbar
  · isplitr; · iexact Hrec
    iexact Hbar
  imod (close_dma m ρ c (sndQ 0) 8 (by decide) (by decide)) $$ [Hp0] with Hp0
  · isplitr; · iexact Hrec
    iexact Hp0
  imod (close_dma m ρ c (sndQ 1) 7 (by decide) (by decide)) $$ [Hp1] with Hp1
  · isplitr; · iexact Hrec
    iexact Hp1
  imod (close_dma m ρ c (sndQ 2) 8 (by decide) (by decide)) $$ [Hp2] with Hp2
  · isplitr; · iexact Hrec
    iexact Hp2
  imod (close_dma m ρ c (sndQ 3) 7 (by decide) (by decide)) $$ [Hp3] with Hp3
  · isplitr; · iexact Hrec
    iexact Hp3
  imod (close_rcv m ρ 0 c) $$ [HR0] with HR0
  · isplitr; · iexact Hrec
    iexact HR0
  imod (close_rcv m ρ 1 c) $$ [HR1] with HR1
  · isplitr; · iexact Hrec
    iexact HR1
  imod (close_rcv m ρ 2 c) $$ [HR2] with HR2
  · isplitr; · iexact Hrec
    iexact HR2
  imod (close_rcv m ρ 3 c) $$ [HR3] with HR3
  · isplitr; · iexact Hrec
    iexact HR3
  imod (close_run m ρ c asQ 15 fun i hi => ⟨by unfold asQ; rw [dq_val _ (by omega)]; omega, (rnds_as i hi).le⟩) $$ [Hqs] with Hqs
  · isplitr; · iexact Hrec
    iexact Hqs
  imod (close_run m ρ c arQ 15 fun i hi => ⟨by unfold arQ; rw [dq_val _ (by omega)]; omega, (rnds_ar i hi).le⟩) $$ [Hqr] with Hqr
  · isplitr; · iexact Hrec
    iexact Hqr
  imodintro
  isplitr [Ho Hs0 Hs1 Hs2]
  · isplitl [Hbar]; · iexact Hbar
    isplitl [Hp0 Hp1 Hp2 Hp3 HR0 HR1 HR2 HR3 Hqs Hqr]
    · iapply (show _ ⊢ Pipeline.ownSems0 (Ix := Unit) (Name := ℕ) (U := UU) (Lvl := ℕ) (Val := Elt F) (τ := τ) osem c from
        Entails.of_eq (pos_split (F := F) (fun i => semVal (((c : Thread nD τ), .dma (dq i)) : GSem nD τ sig) 0)).symm)
      isplitl [Hp0]; · iexact Hp0
      isplitl [Hp2]; · iexact Hp2
      isplitl [Hp1]; · iexact Hp1
      isplitl [Hp3]; · iexact Hp3
      isplitl [HR0]; · iexact HR0
      isplitl [HR2]; · iexact HR2
      isplitl [HR1]; · iexact HR1
      isplitl [HR3]; · iexact HR3
      isplitl [Hqs]; · iexact Hqs
      iexact Hqr
    isplitl [Hx]; · iexists _; iexact Hx
    isplitl [Hw]; · iexists _; iexact Hw
    isplitl [Hl0 Hz0]
    · iapply (slots_join (n := 8) (Memref.whole cc0_scratch2) (whole_emb _) 0 (fun _ => rfl) c); isplitl [Hl0] <;> iassumption
    isplitl [Hl2 Hz2]
    · iapply (slots_join (n := 8) (Memref.whole cc0_scratch3) (whole_emb _) 2 (fun _ => rfl) c); isplitl [Hl2] <;> iassumption
    isplitl [Hl1 Hz1]
    · iapply (slots_join (n := 7) (Memref.whole cc0_scratch4) (whole_emb _) 1 (fun _ => rfl) c); isplitl [Hl1] <;> iassumption
    isplitl [Hl3 Hz3]
    · iapply (slots_join (n := 7) (Memref.whole cc0_scratch5) (whole_emb _) 3 (fun _ => rfl) c); isplitl [Hl3] <;> iassumption
    iexists _; iexact Ham
  isplitl [Ho]; · iexact Ho
  isplitl [Hs0]; · iexact Hs0
  isplitl [Hs1] <;> iassumption

/-! ## The pipeline's data and the body's obligation -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- A staging buffer of device `c` holding `X`. -/
def stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

theorem body_run (c : Dev nD) :
    iprop(Φ₀ m ρ c ∗ (dats m ρ 0 c).owesAt () t0_0.castSucc
        ∗ (∃ d, stg c cc0_stg0_0 ((dats m ρ 0 c).before (0 : Fin 3) t0_0 d)) ∗ (∃ d, stg c cc0_stg1_0 ((dats m ρ 0 c).before (1 : Fin 3) t0_0 d))
        ∗ (∃ d, stg c cc0_stg2_0 ((dats m ρ 0 c).before (2 : Fin 3) t0_0 d)))
      ⊢ WP c (cc0_body xM (Memref.isWhole_whole _) wM (Memref.isWhole_whole _) oM (Memref.isWhole_whole _) xbM (Memref.isWhole_whole _) wbM (Memref.isWhole_whole _)
          m5 (Memref.isWhole_whole _) m6 (Memref.isWhole_whole _) m7 (Memref.isWhole_whole _) m8 (Memref.isWhole_whole _) aM (Memref.isWhole_whole _)
          cc0_scratch7 cc0_scratch8 cc0_scratch9 cc0_scratch10 cc0_scratch11 cc0_scratch12 cc0_scratch13 cc0_scratch14 cc0_scratch15 cc0_scratch16)
        (fun _ => iprop(Φ₁ c ∗ (dats m ρ 0 c).owesAt () t0_0.succ ∗ stg c cc0_stg0_0 (xstg m ρ c) ∗ stg c cc0_stg1_0 (wstg m ρ c) ∗ stg c cc0_stg2_0 (outAt m ρ c))) := by
  refine BI.Entails.trans ?_ (sound_body m ρ c _)
  unfold stg Dat.owesAt Pipeline.owesWithin
  rw [show (dats m ρ 0 c).owed t0_0.castSucc = O₀ c from rfl, show (dats m ρ 0 c).owed t0_0.succ = 0 from rfl]
  show (_ : sProp 𝕄) ⊢ _
  iintro ⟨HΦ, ⟨%W, -, HO⟩, ⟨%d0, %g0, %hg0, H0⟩, ⟨%d1, %g1, %hg1, H1⟩, ⟨%d2, %g2, -, H2⟩⟩
  have e0 : g0 = xstgB m ρ c := hg0.trans (by unfold Dat.before; rw [if_pos (fetch0_0 t0_0)]; rfl)
  have e1 : g1 = wstgB m ρ c := hg1.trans (by unfold Dat.before; rw [if_pos (fetch0_1 t0_0)]; rfl)
  subst e0; subst e1
  unfold Φ₀ start G'
  icases HΦ with ⟨⟨⟨#Hrec, Hpt⟩, Hcl⟩, Hscr⟩
  isplitr []
  · iapply (body_open m ρ c)
    unfold Φ₀ start G'
    isplitl [Hpt Hcl Hscr]
    · isplitr [Hscr]
      · isplitr [Hcl]
        · isplitr; · iexact Hrec
          iexact Hpt
        iexact Hcl
      iexact Hscr
    isplitl [HO]; · iexists W; iexact HO
    isplitl [H0]; · iexact H0
    isplitl [H1]; · iexact H1
    iexists g2; iexact H2
  iintro HQ
  imod (body_close m ρ c) $$ [HQ] with ⟨HΦ, ⟨%W', HO⟩, Hs0, Hs1, Hs2⟩
  · isplitr; · iexact Hrec
    iexact HQ
  imodintro
  isplitl [HΦ]; · iexact HΦ
  isplitl [HO]
  · iexists W'
    isplitr
    · ipureintro; exact fun _ _ => Or.inl trivial
    iexact HO
  isplitl [Hs0]
  · iexists _; isplitr
    rotate_left
    · iexact Hs0
    ipureintro; rfl
  isplitl [Hs1]
  · iexists _; isplitr
    rotate_left
    · iexact Hs1
    ipureintro; rfl
  iexists _; isplitr
  rotate_left
  · iexact Hs2
  ipureintro; rfl

theorem body_obligation (c : Dev nD) : BodyObligation (dats m ρ 0 c) (defs₀ (F := F)) 𝒱₀ () Set.univ := fun t => by
  rw [fin_N0 t]
  rw [bigSep_W0, bigSep_W0]
  simp only [owns_whole_eq]
  exact body_run m ρ c

/-! ## The launch -/

theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  have h0 : lvS (.dma q) = 0 := if_pos (by omega)
  rcases hO with rfl | rfl
  · exact mayWait c (.dma q) dues fun e he => by rw [h0]; revert e; decide +kernel
  · rw [MayWait_zero]; iintro -; iempintro

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [launch_cred]
  iintro ⟨-, Hlev, Hcr, -, HG⟩
  imodintro
  unfold start
  isplitl
  · isplitl [HG]; · iexact HG
    isplitl [Hcr]; · iexact Hcr
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) :=
  Entails.of_eq rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The array of operand `w` of device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- The program runs to its end from any memory with zero counters, and leaves the arrays as computed and the counters at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Ring

end
-- ==== Proof.Product.lean ====
/-
# What the kernel computes over the extended reals: each device's product, entry by entry
-/
module

public import proofs.«01_k».proof.Proof.LaunchP
public import Idealize.ShloMosaic.Lib.MatmulPlain
public import Idealize.ShloMosaic.Lib.StackMember
public import Idealize.ShloMosaic.Lib.Layout
public import Idealize.ShloMosaic.Lib.KernelVsHost
public import Idealize.ShloMosaic.Lib.IdealHost
public import Idealize.ShloMosaic.Lib.Pipeline.Value

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 eq_ix2 idx2_lt0 idx2_lt1)

open scoped BigOperators

variable (m : (ℓ : Loc nD τ sig) → Buf (Elt Ideal) ℓ) (ρ : Dev nD → PrngReg)

/-! ## The operands, entry by entry -/

/-- Entry `(i, q)` of device `d`'s columns of the left operand, and `(q, k)` of its rows of the right one. -/
def xE (d : Dev nD) (i : Fin 4096) (q : Fin 256) : EReal := (m ((d : Thread nD τ).loc main_arg0) : S4096x256.Idx → EReal) (ix2 i q)
def wE (d : Dev nD) (q : Fin 256) (k : Fin 2048) : EReal := (m ((d : Thread nD τ).loc main_arg1) : S256x2048.Idx → EReal) (ix2 q k)

theorem xbC_eq (c : Dev nD) : xbC m ρ c = (m ((c : Thread nD τ).loc main_arg0) : S4096x256.Idx → EReal) := by
  unfold xbC k0_pay2
  simp only [shapeCast_self]
  funext i
  unfold xstg
  rw [View.read_apply]
  refine congrArg (m ((c : Thread nD τ).loc main_arg0)) ?_
  funext a; apply Fin.ext
  match a with
  | ⟨0, _⟩ => show 0 * 4096 + 1 * (i 0).val = (i 0).val; omega
  | ⟨1, _⟩ => show 0 * 256 + 1 * (i 1).val = (i 1).val; omega

theorem wbC_eq (c : Dev nD) : wbC m ρ c = (m ((c : Thread nD τ).loc main_arg1) : S256x2048.Idx → EReal) := by
  unfold wbC k0_pay3
  simp only [shapeCast_self]
  funext i
  unfold wstg
  rw [View.read_apply]
  refine congrArg (m ((c : Thread nD τ).loc main_arg1)) ?_
  funext a; apply Fin.ext
  match a with
  | ⟨0, _⟩ => show 0 * 256 + 1 * (i 0).val = (i 0).val; omega
  | ⟨1, _⟩ => show 0 * 2048 + 1 * (i 1).val = (i 1).val; omega

theorem xrows_apply (c : Dev nD) (r : ℕ) (i : Fin 256) (q : Fin 256) :
    xrows m ρ c r (ix2 i q) = xE m c ⟨256 * (r % 16) + i.val, by have := i.isLt; omega⟩ q := by
  unfold xrows xE
  rw [xbC_eq, View.readAt_apply]
  refine congrArg _ ?_
  funext a; apply Fin.ext
  match a with
  | ⟨0, _⟩ => show 256 * (r % 16) + 1 * i.val = 256 * (r % 16) + i.val; omega
  | ⟨1, _⟩ => show 0 + 1 * q.val = q.val; omega

theorem wcols_apply (c : Dev nD) (h : ℕ) (q : Fin 256) (k : Fin 1024) :
    wcols m ρ c h (ix2 q k) = wE m c q ⟨1024 * (h % 2) + k.val, by have := k.isLt; omega⟩ := by
  unfold wcols wE
  rw [wbC_eq, View.readAt_apply]
  refine congrArg _ ?_
  funext a; apply Fin.ext
  match a with
  | ⟨0, _⟩ => show 0 + 1 * q.val = q.val; omega
  | ⟨1, _⟩ => show 1024 * (h % 2) + 1 * k.val = 1024 * (h % 2) + k.val; omega

/-! ## One device's tile -/

/-- Entry `(i, k)` of half `h` of device `d`'s contribution to row block `r`. -/
def tE (d : Dev nD) (r h : ℕ) (i : Fin 256) (k : Fin 1024) : EReal :=
  ∑ q : Fin 256, xE m d ⟨256 * (r % 16) + i.val, by have := i.isLt; omega⟩ q * wE m d q ⟨1024 * (h % 2) + k.val, by have := k.isLt; omega⟩

theorem tE_mod (d : Dev nD) (r r' h : ℕ) (hr : r % 16 = r' % 16) (i : Fin 256) (k : Fin 1024) : tE m d r h i k = tE m d r' h i k := by
  unfold tE; simp only [hr]

theorem tileMM_apply (c : Dev nD) (r h : ℕ) (i : Fin 256) (k : Fin 1024) :
    tileMM (xrows m ρ c r) (wcols m ρ c h) (ix2 i k) = tE m c r h i k := by
  refine (Ideal.matmul_plain_apply (M := 256) (K := 256) (N := 1024) none (xrows m ρ c r) (wcols m ρ c h) _ i k).trans ?_
  have h0 : (constant S256x1024 .f32 0x00000000#32 : FVec Ideal S256x1024 .f32) (ix2 i k) = 0 := Ideal.ofBits_zero_f32
  rw [h0, zero_add]
  exact Finset.sum_congr rfl fun q _ => by rw [xrows_apply, wcols_apply]

/-! ## The partial sums -/

theorem chunk_src (s : Fin 4) (c : Dev nD) (j : ℕ) (hj : j ≤ 8) : chunkN s (src s c) j % 16 = chunkN s c (j + 1) % 16 := by
  have hc : c.val < 16 := c.isLt
  fin_cases s
  · show ((c.val + 15) % 16 + 40 - j) % 16 = (c.val + 40 - (j + 1)) % 16; omega
  · show ((c.val + 1) % 16 + j + 25) % 16 = (c.val + (j + 1) + 25) % 16; omega
  · show ((c.val + 15) % 16 + 40 - j) % 16 = (c.val + 40 - (j + 1)) % 16; omega
  · show ((c.val + 1) % 16 + j + 25) % 16 = (c.val + (j + 1) + 25) % 16; omega

/-- The partial sum sent at hop `j` adds the tiles of the devices upstream, and of the sender. -/
theorem A_apply (s : Fin 4) (j : ℕ) (hj : j ≤ 8) (c : Dev nD) (i : Fin 256) (k : Fin 1024) :
    A m ρ s j c (ix2 i k) = ∑ n ∈ Finset.range (j + 1), tE m (rot ((16 - step s) * n) c) (chunkN s c j) (half s) i k := by
  induction j generalizing c with
  | zero =>
    rw [Finset.sum_range_one, Nat.mul_zero, rot_of_dvd 0 rfl]
    exact tileMM_apply m ρ c _ _ i k
  | succ j ih =>
    have e : A m ρ s (j + 1) c (ix2 i k)
        = A m ρ s j (src s c) (ix2 i k) + tileMM (xrows m ρ c (chunkN s c (j + 1))) (wcols m ρ c (half s)) (ix2 i k) := rfl
    rw [e, ih (by omega), tileMM_apply, Finset.sum_range_succ' _ (j + 1), Nat.mul_zero, rot_of_dvd 0 rfl]
    refine congrArg (· + _) (Finset.sum_congr rfl fun n _ => ?_)
    rw [tE_mod m _ _ _ _ (chunk_src s c j (by omega))]
    unfold src; rw [rot_rot, Nat.mul_succ, Nat.add_comm]

/-- A sum over the devices, from any one of them on. -/
theorem sum_rot (c : Dev nD) (f : Dev nD → EReal) : ∑ d : Dev nD, f d = ∑ n ∈ Finset.range 16, f (rot n c) := by
  rw [Finset.sum_range]
  refine (Fintype.sum_equiv (rotE c.val) _ _ fun n => ?_).symm
  exact congrArg f (Fin.ext (by show (c.val + n.val) % 16 = (n.val + c.val) % 16; rw [Nat.add_comm]))

theorem rot_congr (a b : ℕ) (h : a % 16 = b % 16) (c : Dev nD) : rot a c = rot b c := by
  apply Fin.ext; show (c.val + a) % 16 = (c.val + b) % 16; omega

/-- The eight upstream, the seven downstream and the device itself are all sixteen. -/
theorem sum_split (c : Dev nD) (f : Dev nD → EReal) :
    ((∑ n ∈ Finset.range 8, f (rot ((16 - 1) * n) (rot (16 - 1) c))) + ∑ n ∈ Finset.range 7, f (rot ((16 - 15) * n) (rot (16 - 15) c))) + f c
      = ∑ d : Dev nD, f d := by
  rw [sum_rot c]
  have e1 : ∀ n ∈ Finset.range 8, f (rot ((16 - 1) * n) (rot (16 - 1) c)) = f (rot (8 + (8 - 1 - n)) c) := fun n hn => by
    have := Finset.mem_range.mp hn; rw [rot_rot]; exact congrArg f (rot_congr _ _ (by omega) c)
  have e2 : ∀ n ∈ Finset.range 7, f (rot ((16 - 15) * n) (rot (16 - 15) c)) = f (rot (n + 1) c) := fun n hn => by
    rw [rot_rot]; exact congrArg f (rot_congr _ _ (by omega) c)
  rw [Finset.sum_congr rfl e1, Finset.sum_congr rfl e2, Finset.sum_range_reflect (fun n => f (rot (8 + n) c)) 8,
    Finset.sum_range_add (fun n => f (rot n c)) 8 8, Finset.sum_range_succ' (fun n => f (rot n c)) 7, rot_of_dvd 0 rfl]
  rw [add_assoc, add_comm]

/-! ## A device's product -/

/-- Entry `(i, k)` of half `h` of row block `r` of the product. -/
def yE (r h : ℕ) (i : Fin 256) (k : Fin 1024) : EReal := ∑ d : Dev nD, tE m d r h i k

theorem yL_apply (c : Dev nD) (i : Fin 256) (k : Fin 1024) : yL m ρ c (ix2 i k) = yE m c.val 0 i k := by
  have hc : c.val < 16 := c.isLt
  have e : yL m ρ c (ix2 i k) = (A m ρ 0 7 (src 0 c) (ix2 i k) + A m ρ 1 6 (src 1 c) (ix2 i k))
      + tileMM (xrows m ρ c (c.val + 32)) (wcols m ρ c 0) (ix2 i k) := rfl
  rw [e, A_apply m ρ 0 7 (by omega), A_apply m ρ 1 6 (by omega), tileMM_apply]
  unfold yE
  rw [← sum_split c]
  refine congr_arg₂ (· + ·) (congr_arg₂ (· + ·) (Finset.sum_congr rfl fun n _ => ?_) (Finset.sum_congr rfl fun n _ => ?_)) ?_
  · exact tE_mod m _ _ _ _ ((chunk_src 0 c 7 (by omega)).trans (by show (c.val + 40 - 8) % 16 = _; omega)) i k
  · exact tE_mod m _ _ _ _ ((chunk_src 1 c 6 (by omega)).trans (by show (c.val + 7 + 25) % 16 = _; omega)) i k
  · exact tE_mod m _ _ _ _ (by omega) i k

theorem yR_apply (c : Dev nD) (i : Fin 256) (k : Fin 1024) : yR m ρ c (ix2 i k) = yE m c.val 1 i k := by
  have hc : c.val < 16 := c.isLt
  have e : yR m ρ c (ix2 i k) = (A m ρ 2 7 (src 2 c) (ix2 i k) + A m ρ 3 6 (src 3 c) (ix2 i k))
      + tileMM (xrows m ρ c (c.val + 32)) (wcols m ρ c 1) (ix2 i k) := rfl
  rw [e, A_apply m ρ 2 7 (by omega), A_apply m ρ 3 6 (by omega), tileMM_apply]
  unfold yE
  rw [← sum_split c]
  refine congr_arg₂ (· + ·) (congr_arg₂ (· + ·) (Finset.sum_congr rfl fun n _ => ?_) (Finset.sum_congr rfl fun n _ => ?_)) ?_
  · exact tE_mod m _ _ _ _ ((chunk_src 2 c 7 (by omega)).trans (by show (c.val + 40 - 8) % 16 = _; omega)) i k
  · exact tE_mod m _ _ _ _ ((chunk_src 3 c 6 (by omega)).trans (by show (c.val + 7 + 25) % 16 = _; omega)) i k
  · exact tE_mod m _ _ _ _ (by omega) i k

end Cert.Ring

end
-- ==== Proof.Value.lean ====
/-
# What the kernel computes over the extended reals, against the reference
-/
module

public import proofs.«01_k».proof.Proof.Product
public import proofs.«01_k».proof.Proof.Gen.ReferenceIdeal.Run
public import Idealize.ShloMosaic.Lib.Pointwise.Sums

@[expose] public section

set_option maxRecDepth 16384

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (eq_ix2 idx2_lt0 idx2_lt1)

open scoped BigOperators

variable (m : (ℓ : Loc nD τ sig) → Buf (Elt Ideal) ℓ) (ρ : Dev nD → PrngReg)

/-! ## The whole product -/

/-- The product of the whole operands. -/
def prod (X : FVec Ideal Cert.ReferenceIdeal.S4096x4096 .f32) (W : FVec Ideal Cert.ReferenceIdeal.S4096x2048 .f32) : FVec Ideal Cert.ReferenceIdeal.S4096x2048 .f32 :=
  fun j => ∑ k : Fin 4096, X (ValueIdx.ix2 (j 0) k) * W (ValueIdx.ix2 k (j 1))

theorem host_prod (X : FVec Ideal Cert.ReferenceIdeal.S4096x4096 .f32) (W : FVec Ideal Cert.ReferenceIdeal.S4096x2048 .f32) :
    Host.dotGeneral Cert.ReferenceIdeal.dot_S4096x4096_S4096x2048_S4096x2048_1_0_0_1_n_n none X W = prod X W := by
  funext j
  rw [ValueIdx.eq_ix2 j]
  exact StackMember.dotGeneral_plain_apply (m := 4096) (k := 4096) (n := 2048) none X W (j 0) (j 1)

/-- The devices hold the blocks of the whole operands. -/
def Holds (X : FVec Ideal Cert.ReferenceIdeal.S4096x4096 .f32) (W : FVec Ideal Cert.ReferenceIdeal.S4096x2048 .f32) : Prop :=
  ∀ c : Dev nD, (m ((c : Thread nD τ).loc main_arg0) : S4096x256.Idx → EReal) = Layout.block ⟨2, ![4096, 256]⟩ ⟨2, ![4096, 4096]⟩ 1 16 c X
    ∧ (m ((c : Thread nD τ).loc main_arg1) : S256x2048.Idx → EReal) = Layout.block ⟨2, ![256, 2048]⟩ ⟨2, ![4096, 2048]⟩ 0 16 c W

/-- Two halves side by side. -/
def halves (L R : FVec Ideal S256x1024 .f32) : FVec Ideal S256x2048 .f32 := fun i =>
  if h : (i 1).val < 1024 then L (ValueIdx.ix2 (i 0) ⟨(i 1).val, h⟩)
  else R (ValueIdx.ix2 (i 0) ⟨(i 1).val - 1024, by have := ValueIdx.idx2_lt1 i; omega⟩)

theorem halves_left (L R : FVec Ideal S256x1024 .f32) (i : Fin 256) (k : Fin 1024) :
    halves L R (ValueIdx.ix2 i ⟨k.val, by omega⟩) = L (ValueIdx.ix2 i k) :=
  dif_pos (show k.val < 1024 from k.isLt)

theorem halves_right (L R : FVec Ideal S256x1024 .f32) (i : Fin 256) (k : Fin 1024) :
    halves L R (ValueIdx.ix2 i ⟨1024 + k.val, by omega⟩) = R (ValueIdx.ix2 i k) := by
  refine (dif_neg (show ¬ 1024 + k.val < 1024 by omega)).trans ?_
  exact congrArg (fun k => R (ValueIdx.ix2 i k)) (Fin.ext (show 1024 + k.val - 1024 = k.val by omega))

/-- Every entry lies in one of the halves. -/
theorem halves_all (p : S256x2048.Idx → Prop) (hL : ∀ (i : Fin 256) (k : Fin 1024), p (ValueIdx.ix2 i ⟨k.val, by omega⟩))
    (hR : ∀ (i : Fin 256) (k : Fin 1024), p (ValueIdx.ix2 i ⟨1024 + k.val, by omega⟩)) (i : S256x2048.Idx) : p i := by
  have h1 := ValueIdx.idx2_lt1 i
  rw [ValueIdx.eq_ix2 i]
  by_cases h : (i 1).val < 1024
  · exact hL (i 0) ⟨(i 1).val, h⟩
  · have e : (⟨1024 + ((i 1).val - 1024), by omega⟩ : Fin 2048) = i 1 := Fin.ext (by show 1024 + ((i 1).val - 1024) = (i 1).val; omega)
    have := hR (i 0) ⟨(i 1).val - 1024, by omega⟩
    exact e ▸ this

theorem yF_halves (c : Dev nD) : yF m ρ c = halves (yL m ρ c) (yR m ρ c) := rfl

section Blocks

variable {m} {X : FVec Ideal Cert.ReferenceIdeal.S4096x4096 .f32} {W : FVec Ideal Cert.ReferenceIdeal.S4096x2048 .f32} (H : Holds m X W)
include H

theorem xE_eq (d : Dev nD) (i : Fin 4096) (q : Fin 256) :
    xE m d i q = X (ValueIdx.ix2 i ⟨d.val * 256 + q.val, by have := q.isLt; have : d.val < 16 := d.isLt; omega⟩) := by
  unfold xE
  rw [(H d).1]
  refine congrArg X ?_
  funext a; apply Fin.ext
  match a with
  | ⟨0, _⟩ => rfl
  | ⟨1, _⟩ => rfl

theorem wE_eq (d : Dev nD) (q : Fin 256) (k : Fin 2048) :
    wE m d q k = W (ValueIdx.ix2 ⟨d.val * 256 + q.val, by have := q.isLt; have : d.val < 16 := d.isLt; omega⟩ k) := by
  unfold wE
  rw [(H d).2]
  refine congrArg W ?_
  funext a; apply Fin.ext
  match a with
  | ⟨0, _⟩ => rfl
  | ⟨1, _⟩ => rfl

/-- The sixteen devices' tiles add up to the product's entry. -/
theorem yE_eq (r h : ℕ) (i : Fin 256) (k : Fin 1024) :
    yE m r h i k = prod X W (ValueIdx.ix2 ⟨256 * (r % 16) + i.val, by have := i.isLt; omega⟩ ⟨1024 * (h % 2) + k.val, by have := k.isLt; omega⟩) := by
  unfold yE prod tE
  rw [Fin.sum_univ_tiles 16 256 rfl]
  exact Finset.sum_congr rfl fun d _ => Finset.sum_congr rfl fun q _ => by rw [xE_eq H, wE_eq H]

/-- Both halves of device `c` are its block of rows of the product. -/
theorem yF_eq (c : Dev nD) : yF m ρ c = Layout.block ⟨2, ![256, 2048]⟩ ⟨2, ![4096, 2048]⟩ 0 16 c (prod X W) := by
  have hc : c.val < 16 := c.isLt
  rw [yF_halves]
  funext i
  refine halves_all (fun i => halves (yL m ρ c) (yR m ρ c) i = Layout.block ⟨2, ![256, 2048]⟩ ⟨2, ![4096, 2048]⟩ 0 16 c (prod X W) (by decide) i)
    (fun i k => ?_) (fun i k => ?_) i
  · have hi := i.isLt
    rw [halves_left, yL_apply, yE_eq H]
    refine congrArg (prod X W) ?_
    funext a; apply Fin.ext
    match a with
    | ⟨0, _⟩ => show 256 * (c.val % 16) + i.val = c.val * 256 + i.val; omega
    | ⟨1, _⟩ => show 1024 * (0 % 2) + k.val = k.val; omega
  · have hi := i.isLt
    rw [halves_right, yR_apply, yE_eq H]
    refine congrArg (prod X W) ?_
    funext a; apply Fin.ext
    match a with
    | ⟨0, _⟩ => show 256 * (c.val % 16) + i.val = c.val * 256 + i.val; omega
    | ⟨1, _⟩ => show 1024 * (1 % 2) + k.val = 1024 + k.val; omega

end Blocks

/-! ## The largest magnitude -/

/-- A bound of a maximum over a whole array bounds every entry. -/
theorem reduction_le {s t : Shape} {axes : List (Fin s.rank)} [Subsingleton t.Idx] (x : FVec Ideal s .f32) (acc : BitVec 32)
    (h : s.Reduces axes t) (hφ : FKind.Formats .f32) (hacc : acc = FKind.maximumf.neutral .f32 hφ) (j : t.Idx) (z : EReal) :
    multiReduction .maximumf axes t x acc h hφ hacc j ≤ z ↔ (Ideal.ofBits .f32 acc ≤ z ∧ ∀ i, x i ≤ z) := by
  rw [multiReduction_maximumf_eq_fold]
  refine (Finset.fold_max_le z).trans (and_congr Iff.rfl ⟨fun g i => g i ?_, fun g i _ => g i⟩)
  exact Finset.mem_filter.mpr ⟨Finset.mem_univ _, Subsingleton.elim _ _⟩

theorem host_reduction_le {s t u : Shape} {axes : List (Fin s.rank)} [Subsingleton t.Idx] (x : FVec Ideal s .f32) (init : FVec Ideal u .f32)
    (h : s.ReducesTo axes t) (hu : 0 < u.numel) (j : t.Idx) (z : EReal) :
    Host.reduce FloatOps.maximumf x init h hu j ≤ z ↔ (init (Shape.Idx.first hu) ≤ z ∧ ∀ i, x i ≤ z) := by
  rw [Host.reduce_eq_fold]
  refine (Finset.fold_max_le z).trans (and_congr Iff.rfl ⟨fun g i => g i ?_, fun g i _ => g i⟩)
  exact Finset.mem_filter.mpr ⟨Finset.mem_univ _, Subsingleton.elim _ _⟩

theorem reshaped_le {s t : Shape} (x : s.Idx → EReal) (h : s.ShapeCasts t) (z : EReal) : (∀ i, shapeCast t x h i ≤ z) ↔ ∀ i, x i ≤ z :=
  ⟨fun g i => by have := g ((Shape.reshapeEquiv h).symm i); unfold shapeCast at this; rwa [Equiv.apply_symm_apply] at this, fun g i => g _⟩

instance : Subsingleton S1.Idx := ⟨fun a b => by
  rw [ValueIdx.eq_ix1 a, ValueIdx.eq_ix1 b]; exact congrArg ValueIdx.ix1 (Subsingleton.elim (α := Fin 1) _ _)⟩

instance : Subsingleton Cert.ReferenceIdeal.S_.Idx := ⟨fun a b => funext fun x => x.elim0⟩

/-- The magnitude of an extended real. -/
def mag (x : EReal) : EReal := FloatOps.absf (F := Ideal) (φ := .f32) x

/-- What a maximum starts from. -/
def low : EReal := Ideal.ofBits .f32 0xFF800000#32

theorem hmax_le (y : FVec Ideal S256x1024 .f32) (z : EReal) : (hmax y : EReal) ≤ z ↔ (low ≤ z ∧ ∀ i, mag (y i) ≤ z) := by
  unfold hmax extractAt
  rw [shapeCast]
  refine (reduction_le (t := S1) _ _ _ _ _ _ z).trans ?_
  exact and_congr Iff.rfl (reshaped_le (absf y) shapeCasts_S256x1024_S1x256x1024 z)

/-- The largest of the sixteen devices' largest magnitudes. -/
def kmax (a : FVec Ideal S16x128 .f32) : Ideal .f32 :=
  extractAt ![0, 0, 0] (shapeCast S1x1x1 (multiReduction (F := Ideal) .maximumf [1, 2] S1 (shapeCast S1x16x128 a shapeCasts_S16x128_S1x16x128)
    0xFF800000#32 reduces_S1x16x128_S1 (.inl rfl) rfl) shapeCasts_S1_S1x1x1) inpos_S1x1x1_p0_0_0

theorem kmax_le (a : FVec Ideal S16x128 .f32) (z : EReal) : (kmax a : EReal) ≤ z ↔ (low ≤ z ∧ ∀ i, a i ≤ z) := by
  unfold kmax extractAt
  rw [shapeCast]
  refine (reduction_le (t := S1) _ _ _ _ _ _ z).trans ?_
  exact and_congr Iff.rfl (reshaped_le a shapeCasts_S16x128_S1x16x128 z)

/-- The reference's largest magnitude. -/
def rmax (Y : FVec Ideal Cert.ReferenceIdeal.S4096x2048 .f32) : FVec Ideal Cert.ReferenceIdeal.S_ .f32 :=
  Host.reduce FloatOps.maximumf (Host.absf Y) (constant Cert.ReferenceIdeal.S_ .f32 0xFF800000#32)
    Cert.ReferenceIdeal.Facts₀.reducesTo_S4096x2048_S_d0_1 Cert.ReferenceIdeal.Facts₀.h_S_

theorem rmax_le (Y : FVec Ideal Cert.ReferenceIdeal.S4096x2048 .f32) (j : Cert.ReferenceIdeal.S_.Idx) (z : EReal) : rmax Y j ≤ z ↔ (low ≤ z ∧ ∀ i, mag (Y i) ≤ z) :=
  host_reduction_le _ _ _ _ j z

/-- Every row of the product is some device's. -/
theorem row_of (i : Cert.ReferenceIdeal.S4096x2048.Idx) : ∃ (c : Dev nD) (i' : S256x2048.Idx), (by decide : Layout.Tiles ⟨2, ![256, 2048]⟩ ⟨2, ![4096, 2048]⟩ 0 16).idx c i' = i := by
  have h0 := ValueIdx.idx2_lt0 i
  have h1 := ValueIdx.idx2_lt1 i
  refine ⟨⟨(i 0).val / 256, by show _ < 16; omega⟩, ValueIdx.ix2 ⟨(i 0).val % 256, by omega⟩ ⟨(i 1).val, h1⟩, ?_⟩
  funext a; apply Fin.ext
  match a with
  | ⟨0, _⟩ => show (i 0).val / 256 * 256 + (i 0).val % 256 = (i 0).val; omega
  | ⟨1, _⟩ => rfl

/-- A bound of both halves' largest magnitudes bounds every entry. -/
theorem halves_le (L R : FVec Ideal S256x1024 .f32) (z : EReal) :
    max (hmax L : EReal) (hmax R) ≤ z ↔ (low ≤ z ∧ ∀ i, mag (halves L R i) ≤ z) := by
  rw [max_le_iff, hmax_le, hmax_le]
  constructor
  · rintro ⟨⟨h, hL⟩, -, hR⟩
    exact ⟨h, halves_all _ (fun i k => by rw [halves_left]; exact hL _) (fun i k => by rw [halves_right]; exact hR _)⟩
  · rintro ⟨h, hF⟩
    refine ⟨⟨h, fun i => ?_⟩, h, fun i => ?_⟩
    · have := hF (ValueIdx.ix2 (i 0) ⟨(i 1).val, by have := ValueIdx.idx2_lt1 i; omega⟩)
      rw [halves_left L R (i 0) (i 1)] at this
      rw [ValueIdx.eq_ix2 i]; exact this
    · have := hF (ValueIdx.ix2 (i 0) ⟨1024 + (i 1).val, by have := ValueIdx.idx2_lt1 i; omega⟩)
      rw [halves_right L R (i 0) (i 1)] at this
      rw [ValueIdx.eq_ix2 i]; exact this

/-- A bound of a device's largest magnitude bounds its block. -/
theorem amv_le (c : Dev nD) (z : EReal) : (amv m ρ c : EReal) ≤ z ↔ (low ≤ z ∧ ∀ i, mag (yF m ρ c i) ≤ z) := by
  unfold amv
  rw [Ideal.scalar_maximumf_def, yF_halves]
  exact halves_le _ _ z

theorem max_eq {X : FVec Ideal Cert.ReferenceIdeal.S4096x4096 .f32} {W : FVec Ideal Cert.ReferenceIdeal.S4096x2048 .f32} (H : Holds m X W) (j : Cert.ReferenceIdeal.S_.Idx) :
    kmax (AM m ρ) = rmax (prod X W) j := by
  refine eq_of_forall_ge_iff fun z => ?_
  rw [kmax_le, rmax_le]
  refine and_congr_right fun hz => ⟨fun h i => ?_, fun h i => ?_⟩
  · obtain ⟨c, i', e⟩ := row_of i
    have h2 := ((amv_le m ρ c z).mp (h (ValueIdx.ix2 c ⟨0, by omega⟩))).2 i'
    rw [yF_eq ρ H c] at h2
    rw [← e]; exact h2
  · refine (amv_le m ρ _ z).mpr ⟨hz, fun i' => ?_⟩
    rw [yF_eq ρ H]
    exact h _

/-! ## The quantised result -/

/-- The reference's result from its product. -/
def quantised (Y : FVec Ideal Cert.ReferenceIdeal.S4096x2048 .f32) : FVec Ideal Cert.ReferenceIdeal.S4096x2048 .f32 :=
  mulf (minimumf (broadcastInDim Cert.ReferenceIdeal.S4096x2048 ![] Cert.ReferenceIdeal.Facts₀.bcast_S_S4096x2048 (id (constant Cert.ReferenceIdeal.S_ .f32 0x42FE0000#32)))
      (maximumf (broadcastInDim Cert.ReferenceIdeal.S4096x2048 ![] Cert.ReferenceIdeal.Facts₀.bcast_S_S4096x2048 (id (constant Cert.ReferenceIdeal.S_ .f32 0xC2FE0000#32)))
        (Host.roundeven (Host.divf Y (broadcastInDim Cert.ReferenceIdeal.S4096x2048 ![] Cert.ReferenceIdeal.Facts₀.bcast_S_S4096x2048
          (Host.divf (rmax Y) (constant Cert.ReferenceIdeal.S_ .f32 0x42FE0000#32)))))))
    (broadcastInDim Cert.ReferenceIdeal.S4096x2048 ![] Cert.ReferenceIdeal.Facts₀.bcast_S_S4096x2048 (Host.divf (rmax Y) (constant Cert.ReferenceIdeal.S_ .f32 0x42FE0000#32)))

/-- One entry quantised, from the largest magnitude. -/
def quant (g y : EReal) : EReal :=
  min (Ideal.ofBits .f32 0x42FE0000#32) (max (Ideal.ofBits .f32 0xC2FE0000#32)
    (Ideal.liftRound Ideal.roundHalfEven (Ideal.div y (Ideal.div g (Ideal.ofBits .f32 0x42FE0000#32)))))
    * Ideal.div g (Ideal.ofBits .f32 0x42FE0000#32)

theorem pay1_apply (a : Vec Ideal S16x128 .f32) (y : Vec Ideal S256x2048 .f32) (i : S256x2048.Idx) : k0_pay1 a y i = quant (kmax a) (y i) := by
  unfold k0_pay1
  simp only [shapeCast_self]
  rfl

theorem quantised_apply (Y : FVec Ideal Cert.ReferenceIdeal.S4096x2048 .f32) (j : Cert.ReferenceIdeal.S4096x2048.Idx) : quantised Y j = quant (rmax Y ValueIdx.ix0) (Y j) := by
  have hb (x : FVec Ideal Cert.ReferenceIdeal.S_ .f32) : broadcastInDim Cert.ReferenceIdeal.S4096x2048 ![] Cert.ReferenceIdeal.Facts₀.bcast_S_S4096x2048 x j = x ValueIdx.ix0 :=
    ValueIdx.broadcastInDim_scalar_apply _ _ _
  unfold quantised
  generalize rmax Y = g
  simp only [mulf, minimumf, maximumf, Host.roundeven, Host.divf, hb]
  rfl

/-- Device `c`'s result is its block of the reference's. -/
theorem outAt_eq {X : FVec Ideal Cert.ReferenceIdeal.S4096x4096 .f32} {W : FVec Ideal Cert.ReferenceIdeal.S4096x2048 .f32} (H : Holds m X W) (c : Dev nD) :
    outAt m ρ c = Layout.block ⟨2, ![256, 2048]⟩ ⟨2, ![4096, 2048]⟩ 0 16 c (quantised (prod X W)) := by
  funext i
  unfold outAt
  rw [pay1_apply, max_eq m ρ H ValueIdx.ix0, yF_eq ρ H c]
  exact (quantised_apply (prod X W) _).symm

/-- The result array after the run. -/
theorem final_result (c : Dev nD) : finalA m ρ c (2 : Fin 3) = outAt m ρ c := by
  have e : finalA m ρ c (2 : Fin 3) = ((cfg0.win 2).blk t0_0).view.write (Elt Ideal) ((dats m ρ 0 c).A 2) ((dats m ρ 0 c).flushed 2 t0_0) Finset.univ := by
    have g : (dats m ρ 0 c).arrAt (2 : Fin cfg0.W) (t0_0.val + 1) = ((cfg0.win 2).blk t0_0).view.write (Elt Ideal) ((dats m ρ 0 c).arrAt 2 t0_0.val) ((dats m ρ 0 c).flushed 2 t0_0) Finset.univ := by
      rw [Dat.arrAt]
      dsimp only
      rw [dif_pos t0_0.isLt, if_pos (flush0_2 t0_0)]
    exact g
  rw [e]
  refine funext fun i => ?_
  have h : ((cfg0.win 2).blk t0_0).view.emb i = i := by
    funext a; apply Fin.ext
    match a with
    | ⟨0, _⟩ => show 0 * 256 + 1 * (i 0).val = (i 0).val; omega
    | ⟨1, _⟩ => show 0 * 2048 + 1 * (i 1).val = (i 1).val; omega
  refine (congrArg _ h.symm).trans ((View.write_emb_of_mem _ _ (Finset.mem_univ _)).trans ?_)
  rfl

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.LaunchP
public import proofs.«01_k».proof.Proof.Value
public import Idealize.ShloMosaic.Adequacy
public import Idealize.ShloMosaic.Init

@[expose] public section

noncomputable section

namespace Cert.Proof

open Idealize.ShloMosaic Idealize.SL.Sem Cert.Kernel

open Idealize.ShloMosaic.TcCoe

/-- The kernel's array of operand 0 or 1 ends as it started. -/
theorem operand_kept {F : FTy → Type} [FloatOps F] (m : (ℓ : Loc Cert.KernelIdeal.nD Cert.KernelIdeal.τ Cert.KernelIdeal.sig) → Buf (Elt F) ℓ) (ρ : Dev Cert.KernelIdeal.nD → PrngReg)
    (c : Dev Cert.KernelIdeal.nD) :
    Cert.Ring.finalA m ρ c (0 : Fin 3) = m ((c : Thread Cert.KernelIdeal.nD Cert.KernelIdeal.τ).loc Cert.KernelIdeal.main_arg0)
      ∧ Cert.Ring.finalA m ρ c (1 : Fin 3) = m ((c : Thread Cert.KernelIdeal.nD Cert.KernelIdeal.τ).loc Cert.KernelIdeal.main_arg1) :=
  ⟨(Cert.Ring.dats m ρ 0 c).arrAt_in (0 : Fin 3) rfl _, (Cert.Ring.dats m ρ 0 c).arrAt_in (1 : Fin 3) rfl _⟩

/-- The kernel's run, for any float values: the operands kept, the counters at zero. -/
theorem kept_run {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (operand_kept m ρ c).1, (h.1 c (1 : Fin 3)).trans (operand_kept m ρ c).2⟩, h.2⟩)
    (Cert.Ring.run_main m ρ)

/-- The two programs, of the same text, have the same bodies. -/
theorem bodies_same : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) ?_
  funext l a
  match l, a with
  | 0, (t, s) => rfl

theorem tables_same : Cert.Kernel.defs (F := Bits) = Cert.KernelIdeal.defs (F := Bits) :=
  congrArg (Pipeline.defs (Cert.Kernel.pcfgs (F := Bits))) bodies_same

theorem frame_kernel : Cert.quiescent_Kernel := by
  intro m ρ _
  rw [tables_same]
  exact kept_run (F := Bits) m ρ

theorem frame_ideal : Cert.quiescent_KernelIdeal := fun m ρ _ => kept_run (F := Ideal) m ρ

/-- The reference is a straight line of host operations, and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result array is the quantised product of its operands. -/
theorem reference_result (X : FVec Ideal Cert.ReferenceIdeal.S4096x4096 .f32) (W : FVec Ideal Cert.ReferenceIdeal.S4096x2048 .f32) :
    Cert.Ring.quantised (Host.dotGeneral Cert.ReferenceIdeal.dot_S4096x4096_S4096x2048_S4096x2048_1_0_0_1_n_n none X W)
      = Cert.Ring.quantised (Cert.Ring.prod X W) :=
  congrArg Cert.Ring.quantised (Cert.Ring.host_prod X W)

/-- Over the extended reals every device ends with its block of the reference's result. -/
theorem same_value : Cert.algebraic_KernelIdeal_ReferenceIdeal := fun m g m' g' _ hag =>
  ⟨Cert.Ring.quantised (Cert.Ring.prod
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))),
    (θ_run Cert.KernelIdeal.defs _ _).mono
      (fun _ h c => ⟨(h.1 c (2 : Fin 3)).trans ((Cert.Ring.final_result m g c).trans (Cert.Ring.outAt_eq m g hag c)),
        (h.1 c (0 : Fin 3)).trans (operand_kept m g c).1, (h.1 c (1 : Fin 3)).trans (operand_kept m g c).2⟩)
      (Cert.Ring.run_main m g),
    (θ_run Cert.ReferenceIdeal.defs _ _).mono
      (fun _ h => ⟨(h 0).1.trans (reference_result _ _), (h 0).2⟩)
      (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, same_value⟩

end Cert.Proof

end
